-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_KernelIdeal [hPre_nonneg_KernelIdeal : Cert.Pre_nonneg_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_ReferenceIdeal [hPre_nonneg_ReferenceIdeal : Cert.Pre_nonneg_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg_KernelIdeal [hKernelIdeal : Cert.KernelIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg_ReferenceIdeal [hReferenceIdeal : Cert.ReferenceIdeal.Facts] [hPre_nonneg_ReferenceIdeal : Cert.Pre_nonneg_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonneg_KernelIdeal [hKernelIdeal : Cert.KernelIdeal.Facts] [hReferenceIdeal : Cert.ReferenceIdeal.Facts] [hPre_nonneg_KernelIdeal : Cert.Pre_nonneg_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg_KernelIdeal : Cert.Pre_nonneg_KernelIdeal.Facts) (hPre_nonneg_ReferenceIdeal : Cert.Pre_nonneg_ReferenceIdeal.Facts),
    quiescent_Kernel (hKernel := hKernel)
    ∧ quiescent_KernelIdeal (hKernelIdeal := hKernelIdeal)
    ∧ quiescent_KernelIdeal_pre_nonneg_KernelIdeal (hKernelIdeal := hKernelIdeal) (hPre_nonneg_KernelIdeal := hPre_nonneg_KernelIdeal)
    ∧ quiescent_ReferenceIdeal (hReferenceIdeal := hReferenceIdeal)
    ∧ quiescent_ReferenceIdeal_pre_nonneg_ReferenceIdeal (hReferenceIdeal := hReferenceIdeal) (hPre_nonneg_ReferenceIdeal := hPre_nonneg_ReferenceIdeal)
    ∧ preserves_Kernel_KernelIdeal
    ∧ algebraic_KernelIdeal_ReferenceIdeal_pre_nonneg_KernelIdeal (hKernelIdeal := hKernelIdeal) (hReferenceIdeal := hReferenceIdeal) (hPre_nonneg_KernelIdeal := hPre_nonneg_KernelIdeal)
-- ==== Pre_nonneg_KernelIdeal.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_cst : FVec F S_ .f32 := constant S_ .f32 0x00000000#32
  let main_v0 : FVec F S256x256 .f32 := broadcastInDim S256x256 ![] bcast_S_S256x256 main_cst
  let main_v1 : IVec S256x256 1 := cmpf .oge main_arg0 main_v0
  let main_c : IVec S_ 1 := constantI S_ 1 1#1
  let main_v2 : IVec S_ 1 := (fun x v => Host.reduce IntOp.andi x v reducesTo_S256x256_S_d0_1 h_S_) main_v1 main_c
  main_v2
-- ==== Pre_nonneg_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_cst : FVec F S_ .f32 := constant S_ .f32 0x00000000#32
  let main_v0 : FVec F S2048x256 .f32 := broadcastInDim S2048x256 ![] bcast_S_S2048x256 main_cst
  let main_v1 : IVec S2048x256 1 := cmpf .oge main_arg0 main_v0
  let main_c : IVec S_ 1 := constantI S_ 1 1#1
  let main_v2 : IVec S_ 1 := (fun x v => Host.reduce IntOp.andi x v reducesTo_S2048x256_S_d0_1 h_S_) main_v1 main_c
  main_v2
-- ==== Kernel.lean ====
abbrev S256x256 : Shape := ⟨2, ![256, 256]⟩
abbrev S8x1x256 : Shape := ⟨3, ![8, 1, 256]⟩
abbrev S8 : Shape := ⟨1, ![8]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S8x1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : Index := Scalar.indexCast v2
  let c0_30 : Index := 0#32
  let c0_31 : Index := 0#32
  ![v37.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_38 : BitVec 32 := 0#32
  let c0_i32_39 : BitVec 32 := 0#32
  ![v2.toNat, 0, 0]
def k0_dev8 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v41 : BitVec 32 := Scalar.addi v2 c1_i32_32
  let c8_i32_33 : BitVec 32 := 8#32
  let v42 : BitVec 32 := Scalar.remsi v41 c8_i32_33
  let c1_i32_36 : BitVec 32 := 1#32
  let v43 : BitVec 32 := Scalar.muli v42 c1_i32_36
  let v44 : BitVec 32 := Scalar.addi c0_i32_37 v43
  v44.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v53 : BitVec 32 := Scalar.addi v2 c2_i32_42
  let c8_i32_43 : BitVec 32 := 8#32
  let v54 : BitVec 32 := Scalar.remsi v53 c8_i32_43
  let c1_i32_46 : BitVec 32 := 1#32
  let v55 : BitVec 32 := Scalar.muli v54 c1_i32_46
  let v56 : BitVec 32 := Scalar.addi c0_i32_47 v55
  v56.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v65 : BitVec 32 := Scalar.addi v2 c3_i32_52
  let c8_i32_53 : BitVec 32 := 8#32
  let v66 : BitVec 32 := Scalar.remsi v65 c8_i32_53
  let c1_i32_56 : BitVec 32 := 1#32
  let v67 : BitVec 32 := Scalar.muli v66 c1_i32_56
  let v68 : BitVec 32 := Scalar.addi c0_i32_57 v67
  v68.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v77 : BitVec 32 := Scalar.addi v2 c4_i32_62
  let c8_i32_63 : BitVec 32 := 8#32
  let v78 : BitVec 32 := Scalar.remsi v77 c8_i32_63
  let c1_i32_66 : BitVec 32 := 1#32
  let v79 : BitVec 32 := Scalar.muli v78 c1_i32_66
  let v80 : BitVec 32 := Scalar.addi c0_i32_67 v79
  v80.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v89 : BitVec 32 := Scalar.addi v2 c5_i32_72
  let c8_i32_73 : BitVec 32 := 8#32
  let v90 : BitVec 32 := Scalar.remsi v89 c8_i32_73
  let c1_i32_76 : BitVec 32 := 1#32
  let v91 : BitVec 32 := Scalar.muli v90 c1_i32_76
  let v92 : BitVec 32 := Scalar.addi c0_i32_77 v91
  v92.toNat
def k0_dev13 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_82 : BitVec 32 := 6#32
  let v101 : BitVec 32 := Scalar.addi v2 c6_i32_82
  let c8_i32_83 : BitVec 32 := 8#32
  let v102 : BitVec 32 := Scalar.remsi v101 c8_i32_83
  let c1_i32_86 : BitVec 32 := 1#32
  let v103 : BitVec 32 := Scalar.muli v102 c1_i32_86
  let v104 : BitVec 32 := Scalar.addi c0_i32_87 v103
  v104.toNat
def k0_dev14 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v113 : BitVec 32 := Scalar.addi v2 c7_i32_92
  let c8_i32_93 : BitVec 32 := 8#32
  let v114 : BitVec 32 := Scalar.remsi v113 c8_i32_93
  let c1_i32_96 : BitVec 32 := 1#32
  let v115 : BitVec 32 := Scalar.muli v114 c1_i32_96
  let v116 : BitVec 32 := Scalar.addi c0_i32_97 v115
  v116.toNat
def k0_off3 (d0 : Dev nD) (c1_i32_103 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : BitVec 32 := Scalar.subi v2 c1_i32_103
  let c8_i32_104 : BitVec 32 := 8#32
  let v135 : BitVec 32 := Scalar.addi v134 c8_i32_104
  let c8_i32_105 : BitVec 32 := 8#32
  let v136 : BitVec 32 := Scalar.remsi v135 c8_i32_105
  let c0_i32_110 : BitVec 32 := 0#32
  let c0_i32_111 : BitVec 32 := 0#32
  ![v136.toNat, 0, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 21
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S_, .f32⟩
  | .hbm, ⟨4, _⟩ => ⟨S2048x256, .f32⟩
  | .hbm, ⟨5, _⟩ => ⟨S_, .i32⟩
  | .hbm, ⟨6, _⟩ => ⟨S2048x256, .f32⟩
  | .hbm, ⟨7, _⟩ => ⟨S_, .i32⟩
  | .hbm, ⟨8, _⟩ => ⟨S256, .f32⟩
  | .hbm, ⟨9, _⟩ => ⟨S2048x256, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x256, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S_, .i32⟩
  | .hbm, ⟨18, _⟩ => ⟨S2048x256, .f32⟩
  | .hbm, ⟨19, _⟩ => ⟨S_, .i32⟩
  | .hbm, ⟨20, _⟩ => ⟨S_, .i32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 2048#32, 1#32⟩
-- ==== Proof.Rows.lean ====
/-
The communication buffer of the kernel, row by row.

Device `c` keeps an 8 × 1 × 256 buffer; row `r` of it is to hold the column totals of device `r`.
This module names the ring of devices, the rows, the contents every device's buffer ends at, and the
two ways a points-to of the buffer is cut: along rows, and along the eight leaves of a share.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The kernel's own rounds: cells are semaphores, a duty is named by a distance between devices. -/
abbrev UB : Type := URounds (GSem nD τ sig) (Fin 8)
/-- The pipeline's rounds beside the kernel's own. -/
abbrev UU : Type := UR sig nD τ × UB

local notation "𝕄" => MT nD τ sig Unit (Elt F) ℕ UU ℕ

/-- Where the pipeline's rounds live. -/
abbrev EP : Emb (UR sig nD τ) (MT nD τ sig Unit (Elt F) ℕ UU ℕ) := embL
/-- Where the kernel's rounds live. -/
abbrev ER : Emb UB (MT nD τ sig Unit (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The devices, going round -/

/-- The device `d` steps after `c`. -/
def peer (c : Dev nD) (d : Fin 8) : Dev nD := ⟨(c.val + d.val) % 8, Nat.mod_lt _ (by decide)⟩

/-- Forward then back by the same distance is where one started; -/
theorem peer_back (c : Dev nD) (d : Fin 8) : peer (peer c d) (-d) = c := by revert c d; decide
/-- and back then forward too. -/
theorem peer_forth (c : Dev nD) (d : Fin 8) : peer (peer c (-d)) d = c := by revert c d; decide
/-- No distance at all stays put. -/
theorem peer_zero (c : Dev nD) : peer c 0 = c := by revert c; decide
/-- At no distance other than zero does one stay put. -/
theorem peer_ne (c : Dev nD) (d : Fin 8) (hd : d ≠ 0) : peer c d ≠ c := by revert c d; decide
/-- The distance from one device to another is determined by the two. -/
theorem peer_inj (c : Dev nD) (d e : Fin 8) (h : peer c d = peer c e) : d = e := by revert c d e; decide

/-- The opposite of a distance that is not zero is not zero. -/
theorem neg_ne : ∀ d : Fin 8, d ≠ 0 → -d ≠ 0 := by decide

/-- Every device moved on by `d`. -/
def shift (d : Fin 8) : Dev nD ≃ Dev nD := ⟨fun c => peer c d, fun c => peer c (-d), fun c => peer_back c d, fun c => peer_forth c d⟩

/-- The rows counted by their distance after `c`. -/
def ahead (c : Dev nD) : Fin 8 ≃ Fin 8 where
  toFun d := peer c d
  invFun r := r - c
  left_inv d := by revert c d; decide
  right_inv r := by revert c r; decide
/-- The rows counted by their distance before `c`. -/
def behind (c : Dev nD) : Fin 8 ≃ Fin 8 where
  toFun d := peer c (-d)
  invFun r := c - r
  left_inv d := by revert c d; decide
  right_inv r := by revert c r; decide

/-- The distances that are not zero. -/
abbrev offs : Finset (Fin 8) := Finset.univ.erase 0
/-- The same, listed in the kernel's order. -/
abbrev offL : List (Fin 8) := [1, 2, 3, 4, 5, 6, 7]

/-- A conjunction over the seven distances, written out. -/
theorem bigSep_offs {M : Type} [URA M] (Φ : Fin 8 → sProp M) :
    bigSep offs Φ = iprop(Φ 1 ∗ Φ 2 ∗ Φ 3 ∗ Φ 4 ∗ Φ 5 ∗ Φ 6 ∗ Φ 7) :=
  bigSep_eq_bigSepL_of_eq offL (by decide) (by decide) Φ
/-- A conjunction over all eight, zero apart. -/
theorem bigSep_zero {M : Type} [URA M] (Φ : Fin 8 → sProp M) : bigSep Finset.univ Φ = iprop(Φ 0 ∗ bigSep offs Φ) :=
  bigSep_univ_at Φ 0

/-! ## Memrefs -/

/-- The staging buffer of the argument block. -/
abbrev xM : Memref sig .tc .vmem S256x256 .f32 := Memref.whole cc0_stg0_0
/-- The staging buffer of the result block. -/
abbrev oM : Memref sig .tc .vmem S256x256 .f32 := Memref.whole cc0_stg1_0
/-- The communication buffer. -/
abbrev cM : Memref sig .tc .vmem S8x1x256 .f32 := Memref.whole cc0_scratch0

/-- Where row `r` starts. -/
abbrev rowOff (r : Fin 8) : Fin 3 → ℕ := ![r.val, 0, 0]
/-- A row fits in the buffer. -/
theorem rowOff_inb : ∀ r : Fin 8, ∀ a, (rowOff r) a + S1x1x256.size a ≤ S8x1x256.size a := by decide
/-- The rectangle at an offset one row long. -/
abbrev rowRect (off : Fin 3 → ℕ) (h : ∀ a, off a + S1x1x256.size a ≤ S8x1x256.size a) : Rect S8x1x256 :=
  Rect.unit (s := S8x1x256) off S1x1x256.size h
/-- The row at an offset, as the kernel's transfers name it. -/
abbrev rowM (off : Fin 3 → ℕ) (h : ∀ a, off a + S1x1x256.size a ≤ S8x1x256.size a) : Memref sig .tc .vmem S1x256 .f32 :=
  (cM.slice (rowRect off h) (fun _ => rfl)).squeeze S1x256 squeezes_S1x1x256_S1x256

/-- The elements of row `r`. -/
def rowSet (r : Fin 8) : Finset (cc0_scratch0 : Ref sig .tc).ty.Idx := (rowRect (rowOff r) (rowOff_inb r)).set

/-- A transfer's row has exactly the row's elements. -/
theorem rowM_set (r : Fin 8) : (rowM (rowOff r) (rowOff_inb r)).view.set = rowSet r := by
  unfold rowSet; exact (View.set_reshape _ _).trans (View.set_slice_whole _ _)
/-- So has a store's access to it. -/
theorem access_set (r : Fin 8) : ((cM : Memref sig .tc .vmem S8x1x256 .f32).access (rowRect (rowOff r) (rowOff_inb r))).set = rowSet r := by
  unfold rowSet; exact View.set_slice_whole _ _

/-- Two different rows share no element. -/
theorem row_disjoint (r r' : Fin 8) (h : r ≠ r') : Disjoint (rowSet r) (rowSet r') :=
  Idealize.ShloMosaic.Ring.lead_disjoint (s := S8x1x256) (NB := 8) (0 : Fin 3) 1 rowOff S1x1x256.size rowOff_inb (fun b => (Nat.one_mul b.val).symm) rfl r r' h
/-- The rows are the whole buffer. -/
theorem row_cover : Finset.univ.biUnion rowSet = Finset.univ :=
  Idealize.ShloMosaic.Ring.lead_cover (s := S8x1x256) (NB := 8) (0 : Fin 3) 1 rowOff S1x1x256.size rowOff_inb (fun b => (Nat.one_mul b.val).symm)
    (fun b a ha => by fin_cases a <;> first | exact absurd rfl ha | rfl) rfl (fun a ha => by fin_cases a <;> first | exact absurd rfl ha | rfl) rfl

/-- What one transfer of a row adds to a semaphore. -/
abbrev N : ℕ := (rowM (rowOff 0) (rowOff_inb 0)).view.dmaCredit
/-- It does so wherever the row is. -/
theorem N_row (off : Fin 3 → ℕ) (h : ∀ a, off a + S1x1x256.size a ≤ S8x1x256.size a) : (rowM off h).view.dmaCredit = N := rfl
/-- It adds something. -/
theorem N_pos : 0 < N := View.dmaCredit_pos _ (by decide)

/-! ## Contents -/

/-- The block of `x` on device `c`, as staged. -/
def xstg (c : Dev nD) : (cc0_stg0_0 : Ref sig .tc).ty.Contents (Elt F) :=
  (win0_0.blk (0 : Fin 1)).view.read (Elt F) (m ((c : Thread nD τ).loc main_arg0))

/-- A position of the buffer, seen inside its row. -/
def inRow (i : S8x1x256.Idx) : S1x1x256.Idx :=
  fun a => ⟨(i a).val - rowOff (i 0) a, by
    have := (i a).isLt
    fin_cases a
    · show (i 0).val - (i 0).val < 1; omega
    · exact lt_of_le_of_lt (Nat.sub_le _ _) this
    · exact lt_of_le_of_lt (Nat.sub_le _ _) this⟩

/-- What every device's buffer ends at: row `r` holds the column totals of device `r`. -/
def tot : (cc0_scratch0 : Ref sig .tc).ty.Contents (Elt F) :=
  fun i : S8x1x256.Idx => k0_pay2 (xstg m (i 0 : Fin 8)) (inRow i)

/-- The result block of device `c`. -/
def outAt (c : Dev nD) : (cc0_stg1_0 : Ref sig .tc).ty.Contents (Elt F) :=
  k0_pay4 (Scalar.remsi (Scalar.divsi (Dev.word c) 1#32) 8#32) (k0_pay3 (k0_pay1 (xstg m c))) (tot m)

/-- A store of the column totals of device `c` to row `c` leaves, on that row, the final contents. -/
theorem store_tot (c : Dev nD) (f : (cc0_scratch0 : Ref sig .tc).ty.Contents (Elt F)) :
    ∀ i ∈ rowSet c, ((cM : Memref sig .tc .vmem S8x1x256 .f32).access (rowRect (rowOff c) (rowOff_inb c))).write (Elt F) f (k0_pay2 (xstg m c)) Finset.univ i
      = tot m i := by
  intro i hi
  rw [← access_set] at hi
  obtain ⟨y, -, rfl⟩ := Finset.mem_map.mp hi
  rw [View.write_emb_of_mem _ _ (Finset.mem_univ y)]
  have h0 : ((((cM : Memref sig .tc .vmem S8x1x256 .f32).access (rowRect (rowOff c) (rowOff_inb c))).emb y : S8x1x256.Idx) 0 : Fin 8) = c := by
    apply Fin.ext
    show c.val + 1 * (y 0).val = c.val
    have : (y 0).val < 1 := (y 0).isLt
    omega
  have h1 : inRow ((((cM : Memref sig .tc .vmem S8x1x256 .f32).access (rowRect (rowOff c) (rowOff_inb c))).emb y : S8x1x256.Idx)) = y := by
    funext a
    apply Fin.ext
    show (rowOff c a + 1 * (y a).val) - rowOff _ a = (y a).val
    rw [h0]; omega
  show k0_pay2 (xstg m c) y = k0_pay2 (xstg m _) (inRow _)
  rw [h1, h0]

omit [FloatOps F] in
/-- A view's elements overwritten with what the same view reads of `g` are `g`'s. -/
theorem write_read_same (off : Fin 3 → ℕ) (h : ∀ a, off a + S1x1x256.size a ≤ S8x1x256.size a) (f g : (cc0_scratch0 : Ref sig .tc).ty.Contents (Elt F)) :
    ∀ i ∈ (rowM off h).view.set, (rowM off h).view.write (Elt F) f ((rowM off h).view.read (Elt F) g) Finset.univ i = g i := by
  intro i hi
  obtain ⟨y, -, rfl⟩ := Finset.mem_map.mp hi
  rw [View.write_emb_of_mem _ _ (Finset.mem_univ y)]
  rfl

/-! ## Points-tos of rows -/

/-- Row `r` of device `c`'s buffer at a share. -/
def rowPts (c : Dev nD) (r : Fin 8) (q : PosShare TreeShare) (f : Buf (Elt F) ((c : Thread nD τ).loc cc0_scratch0)) : sProp 𝕄 :=
  ((c : Thread nD τ).loc cc0_scratch0) ↦[rowSet r]{q} f

omit [FloatOps F] in
instance rowPts_storable (c : Dev nD) (r : Fin 8) (q) (f) : BI.Storable (upEmb : UEmb _ 𝕄) (rowPts (F := F) c r q f) := by
  unfold rowPts; infer_instance

omit [FloatOps F] in
/-- A row is what a transfer's view of it covers. -/
theorem rowPts_view (c : Dev nD) (r : Fin 8) (q : PosShare TreeShare) (f : Buf (Elt F) ((c : Thread nD τ).loc cc0_scratch0)) :
    (rowPts c r q f : sProp 𝕄)
      = ((rowM (rowOff r) (rowOff_inb r)).view.loc (c : Thread nD τ) ↦[(rowM (rowOff r) (rowOff_inb r)).view.set]{q} f) := by
  rw [rowM_set]; rfl
omit [FloatOps F] in
/-- A row landed from a row of contents `g` is that row of `g`. -/
theorem landed_row (c : Dev nD) (r : Fin 8) (f g : (cc0_scratch0 : Ref sig .tc).ty.Contents (Elt F)) :
    ((rowM (rowOff r) (rowOff_inb r)).view.loc (c : Thread nD τ) ↦[(rowM (rowOff r) (rowOff_inb r)).view.set]{fullShare}
        ((rowM (rowOff r) (rowOff_inb r)).view.write (Elt F) f ((rowM (rowOff r) (rowOff_inb r)).view.read (Elt F) g) Finset.univ) : sProp 𝕄)
      ⊢ rowPts c r fullShare g := by
  rw [rowPts_view]
  exact Entails.of_eq (pointsTo_congr (write_read_same _ _ f g))

omit [FloatOps F] in
/-- A row is what an access to it covers. -/
theorem rowPts_access (c : Dev nD) (r : Fin 8) (q : PosShare TreeShare) (f : Buf (Elt F) ((c : Thread nD τ).loc cc0_scratch0)) :
    (rowPts c r q f : sProp 𝕄)
      = (((cM : Memref sig .tc .vmem S8x1x256 .f32).access (rowRect (rowOff r) (rowOff_inb r))).loc (c : Thread nD τ)
          ↦[((cM : Memref sig .tc .vmem S8x1x256 .f32).access (rowRect (rowOff r) (rowOff_inb r))).set]{q} f) := by
  rw [access_set]; rfl
/-- A row with its device's column totals stored is that row of the final contents. -/
theorem stored_row (c : Dev nD) (f : (cc0_scratch0 : Ref sig .tc).ty.Contents (Elt F)) :
    (((cM : Memref sig .tc .vmem S8x1x256 .f32).access (rowRect (rowOff c) (rowOff_inb c))).loc (c : Thread nD τ)
        ↦[((cM : Memref sig .tc .vmem S8x1x256 .f32).access (rowRect (rowOff c) (rowOff_inb c))).set]{fullShare}
          (((cM : Memref sig .tc .vmem S8x1x256 .f32).access (rowRect (rowOff c) (rowOff_inb c))).write (Elt F) f (k0_pay2 (xstg m c)) Finset.univ) : sProp 𝕄)
      ⊢ rowPts c c fullShare (tot m) := by
  rw [rowPts_access]
  exact Entails.of_eq (pointsTo_congr fun i hi => store_tot m c f i (by rw [← access_set]; exact hi))

/-- The `d`-th of the eight leaves of the full share. -/
def leaf (d : Fin 8) : PosShare TreeShare := ShareLeaves.leaf 3 fullShare d

/-- What is left of a row at the full share once its zeroth leaf is taken. -/
def rowRest (c : Dev nD) (r : Fin 8) (f : Buf (Elt F) ((c : Thread nD τ).loc cc0_scratch0)) : sProp 𝕄 :=
  bigSep offs fun d => rowPts c r (leaf d) f

omit [FloatOps F] in
/-- A row at the full share is its zeroth leaf and the seven others. -/
theorem rowPts_leaves (c : Dev nD) (r : Fin 8) (f : Buf (Elt F) ((c : Thread nD τ).loc cc0_scratch0)) :
    rowPts c r fullShare f = iprop(rowPts c r (leaf 0) f ∗ rowRest c r f) := by
  unfold rowRest
  rw [← bigSep_zero (fun d => rowPts c r (leaf d) f)]
  exact ShareLeaves.pointsTo_leaves _ f 3 fullShare

omit [FloatOps F] in
/-- The whole buffer is its rows, in whatever order they are counted. -/
theorem whole_rows (c : Dev nD) (e : Fin 8 ≃ Fin 8) (q : PosShare TreeShare) (f : Buf (Elt F) ((c : Thread nD τ).loc cc0_scratch0)) :
    (((c : Thread nD τ).loc cc0_scratch0) ↦{q} f : sProp 𝕄) = iprop(rowPts c (e 0) q f ∗ bigSep offs fun d => rowPts c (e d) q f) := by
  rw [← bigSep_zero (fun d => rowPts c (e d) q f), Idealize.ShloMosaic.Ring.pointsTo_blocks rowSet row_disjoint row_cover f,
    bigSep_univ_equiv e]
  rfl

omit [FloatOps F] in
/-- The whole buffer, `c`'s own row apart from those after it. -/
theorem whole_ahead (c : Dev nD) (q : PosShare TreeShare) (f : Buf (Elt F) ((c : Thread nD τ).loc cc0_scratch0)) :
    (((c : Thread nD τ).loc cc0_scratch0) ↦{q} f : sProp 𝕄) = iprop(rowPts c c q f ∗ bigSep offs fun d => rowPts c (peer c d) q f) := by
  rw [whole_rows c (ahead c) q f, show (ahead c 0 : Fin 8) = c from peer_zero c]; rfl
omit [FloatOps F] in
/-- The whole buffer, `c`'s own row apart from those before it. -/
theorem whole_behind (c : Dev nD) (q : PosShare TreeShare) (f : Buf (Elt F) ((c : Thread nD τ).loc cc0_scratch0)) :
    (((c : Thread nD τ).loc cc0_scratch0) ↦{q} f : sProp 𝕄) = iprop(rowPts c c q f ∗ bigSep offs fun d => rowPts c (peer c (-d)) q f) := by
  rw [whole_rows c (behind c) q f, show (behind c 0 : Fin 8) = c from peer_zero c]; rfl

omit [FloatOps F] in
/-- `c`'s own row at the zeroth leaf and the other rows at the full share make the whole buffer at the zeroth leaf, the
    other leaves of the other rows left over. -/
theorem gather_leaf (c : Dev nD) (f : Buf (Elt F) ((c : Thread nD τ).loc cc0_scratch0)) :
    (iprop(rowPts c c (leaf 0) f ∗ bigSep offs fun d => rowPts c (peer c (-d)) fullShare f) : sProp 𝕄)
      = iprop((((c : Thread nD τ).loc cc0_scratch0) ↦{leaf 0} f) ∗ bigSep offs fun d => rowRest c (peer c (-d)) f) := by
  rw [bigSep_congr (s := offs) (fun d _ => rowPts_leaves c (peer c (-d)) f), bigSep_sep', whole_behind c (leaf 0) f]
  exact (Idealize.SL.BI.Entails.antisymm Idealize.SL.BI.sep_assoc Idealize.SL.BI.sep_assoc').symm
omit [FloatOps F] in
/-- The whole buffer at the zeroth leaf with every row's other leaves is the whole buffer at the full share. -/
theorem gather_full (c : Dev nD) (f : Buf (Elt F) ((c : Thread nD τ).loc cc0_scratch0)) :
    (iprop((((c : Thread nD τ).loc cc0_scratch0) ↦{leaf 0} f) ∗ (bigSep offs fun d => rowRest c (peer c (-d)) f) ∗ rowRest c c f) : sProp 𝕄)
      ⊢ (((c : Thread nD τ).loc cc0_scratch0) ↦{fullShare} f : sProp 𝕄) := by
  rw [whole_behind c fullShare f, rowPts_leaves c c f, bigSep_congr (s := offs) (fun d _ => rowPts_leaves c (peer c (-d)) f), bigSep_sep',
    whole_behind c (leaf 0) f]
  iintro ⟨⟨H1, H2⟩, H3, H4⟩
  isplitl [H1 H4]
  · isplitl [H1] <;> iassumption
  isplitl [H2] <;> iassumption

end Cert.KernelRun

end
-- ==== Proof.Cells.lean ====
/-
The semaphores of the kernel as cells of a one-round schedule, and what each device owes.

Every device owns a barrier cell, eight send cells and eight receive cells (those at distance zero are never used).
A cell's duties are named by the distance `d ≠ 0` between the payer and the owner.
-/
module

public import proofs.«01_k».proof.Proof.Rows

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Semaphores and cells -/

/-- A one-element slice of an array of eight semaphores fits. -/
theorem semOff_inb : ∀ d : Fin 8, ∀ a, (![d.val] : Fin 1 → ℕ) a + S1.size a ≤ S8.size a := by decide

/-- The collective's barrier semaphore. -/
abbrev barS : Sem sig := (SemArray.scalar (sig.barrier 0 rfl) : Sems sig S_).sem
/-- The semaphore the transfer to the device at distance `d` signals at its source. -/
abbrev sendS (d : Fin 8) : DmaSem sig := ((cc0_scratch1.slice (Rect.unit (s := S8) ![d.val] S1.size (semOff_inb d))).squeeze S_ squeezes_S1_S_).sem
/-- The semaphore the transfer from the device at distance `d` signals at its target. -/
abbrev recvS (d : Fin 8) : DmaSem sig := ((cc0_scratch2.slice (Rect.unit (s := S8) ![d.val] S1.size (semOff_inb d))).squeeze S_ squeezes_S1_S_).sem

/-- Device `c`'s barrier cell. -/
abbrev barCell (c : Dev nD) : GSem nD τ sig := ((c : Thread nD τ), .reg barS)
/-- Device `c`'s send cell for distance `d`. -/
abbrev sendCell (c : Dev nD) (d : Fin 8) : GSem nD τ sig := ((c : Thread nD τ), .dma (sendS d))
/-- Device `c`'s receive cell for distance `d`. -/
abbrev recvCell (c : Dev nD) (d : Fin 8) : GSem nD τ sig := ((c : Thread nD τ), .dma (recvS d))

/-- Send semaphores are told apart by their distance. -/
theorem sendS_inj : ∀ d e : Fin 8, (SemLoc.dma (sendS d) : SemLoc sig) = .dma (sendS e) → d = e := by decide
/-- So are receive semaphores. -/
theorem recvS_inj : ∀ d e : Fin 8, (SemLoc.dma (recvS d) : SemLoc sig) = .dma (recvS e) → d = e := by decide
/-- No send semaphore is a receive semaphore. -/
theorem send_ne_recv : ∀ d e : Fin 8, (SemLoc.dma (sendS d) : SemLoc sig) ≠ .dma (recvS e) := by decide
/-- No transfer semaphore is the barrier's. -/
theorem dma_ne_bar (q : DmaSem sig) : (SemLoc.dma q : SemLoc sig) ≠ .reg barS := fun h => by cases h

/-! ## The schedule -/

/-- What the device at distance `d` hands over with its barrier unit: the row it will receive `b`'s totals in. -/
def landing (b : Dev nD) (d : Fin 8) : sProp 𝕄 := iprop(∃ f, rowPts (peer b d) b fullShare f)

/-- The one round. A barrier cell is paid one unit by each other device; a receive cell at `d` is paid a row by the device
    `d` before, and hands the row over filled; a send cell at `d` is paid a row and hands back the share that was lent. -/
def sched : Rounds.Schedule (GSem nD τ sig) (Fin 8) 𝕄 where
  duties g r := if r = 0 ∧ g.1.2 = .tc then offs.filter (fun d => g.2 = .reg barS ∨ g.2 = .dma (recvS d) ∨ g.2 = .dma (sendS d)) else ∅
  unitless _ := False
  amount g _ _ := if g.2 = .reg barS then 1 else N
  payload g _ d :=
    if g.2 = .reg barS then landing g.1.1 d
    else if g.2 = .dma (recvS d) then rowPts g.1.1 (peer g.1.1 (-d)) fullShare (tot m)
    else if g.2 = .dma (sendS d) then rowPts g.1.1 g.1.1 (leaf d) (tot m)
    else iprop(emp)
  amount_pos g _ _ _ := by
    split
    · exact Nat.one_pos
    · exact N_pos

instance landing_storable (b : Dev nD) (d : Fin 8) : BI.Storable (upEmb : UEmb _ 𝕄) (landing (F := F) b d) := by
  unfold landing; infer_instance

instance sched_payload_storable (g : GSem nD τ sig) (r : ℕ) (d : Fin 8) :
    BI.Storable (upEmb : UEmb _ 𝕄) ((sched (F := F) m).payload g r d) := by
  show BI.Storable upEmb (if g.2 = .reg barS then landing g.1.1 d
    else if g.2 = .dma (recvS d) then rowPts g.1.1 (peer g.1.1 (-d)) fullShare (tot m)
    else if g.2 = .dma (sendS d) then rowPts g.1.1 g.1.1 (leaf d) (tot m)
    else iprop(emp))
  (repeat' split) <;> infer_instance

section Tables
variable (c : Dev nD) (d : Fin 8)

/-- The duties of a barrier cell: every distance but zero. -/
theorem duties_bar : (sched m).duties (barCell c) 0 = offs := by
  dsimp only [sched]; rw [if_pos ⟨rfl, rfl⟩]; exact Finset.filter_true_of_mem fun _ _ => .inl rfl
/-- The one duty of a send cell. -/
theorem duties_send (hd : d ≠ 0) : (sched m).duties (sendCell c d) 0 = {d} := by
  dsimp only [sched]; rw [if_pos ⟨rfl, rfl⟩]
  ext e
  simp only [Finset.mem_filter, Finset.mem_erase, Finset.mem_univ, and_true, Finset.mem_singleton]
  constructor
  · rintro ⟨-, h | h | h⟩
    · exact absurd h (dma_ne_bar _)
    · exact absurd h (send_ne_recv _ _)
    · exact (sendS_inj _ _ h).symm
  · rintro rfl; exact ⟨hd, .inr (.inr rfl)⟩
/-- The one duty of a receive cell. -/
theorem duties_recv (hd : d ≠ 0) : (sched m).duties (recvCell c d) 0 = {d} := by
  dsimp only [sched]; rw [if_pos ⟨rfl, rfl⟩]
  ext e
  simp only [Finset.mem_filter, Finset.mem_erase, Finset.mem_univ, and_true, Finset.mem_singleton]
  constructor
  · rintro ⟨-, h | h | h⟩
    · exact absurd h (dma_ne_bar _)
    · exact (recvS_inj _ _ h).symm
    · exact absurd h.symm (send_ne_recv _ _)
  · rintro rfl; exact ⟨hd, .inr (.inl rfl)⟩
/-- The cells at distance zero have no duty. -/
theorem duties_send_zero : (sched m).duties (sendCell c 0) 0 = ∅ := by
  dsimp only [sched]; rw [if_pos ⟨rfl, rfl⟩]
  refine Finset.filter_false_of_mem fun e he => ?_
  rintro (h | h | h)
  · exact absurd h (dma_ne_bar _)
  · exact absurd h (send_ne_recv _ _)
  · exact (Finset.mem_erase.mp he).1 (sendS_inj _ _ h).symm
/-- The cells at distance zero have no duty. -/
theorem duties_recv_zero : (sched m).duties (recvCell c 0) 0 = ∅ := by
  dsimp only [sched]; rw [if_pos ⟨rfl, rfl⟩]
  refine Finset.filter_false_of_mem fun e he => ?_
  rintro (h | h | h)
  · exact absurd h (dma_ne_bar _)
  · exact (Finset.mem_erase.mp he).1 (recvS_inj _ _ h).symm
  · exact absurd h.symm (send_ne_recv _ _)
/-- There is one round only. -/
theorem duties_later (g : GSem nD τ sig) : ∀ r, 1 ≤ r → (sched m).duties g r = ∅ :=
  fun r hr => by dsimp only [sched]; exact if_neg fun h => by omega

/-- A barrier duty is one unit. -/
theorem amount_bar : (sched m).amount (barCell c) 0 d = 1 := by dsimp only [sched]; exact if_pos rfl
/-- A transfer's duty is a row. -/
theorem amount_dma (q : DmaSem sig) : (sched m).amount ((c : Thread nD τ), .dma q) 0 d = N := by dsimp only [sched]; exact if_neg (dma_ne_bar q)

/-- A barrier cell expects seven units. -/
theorem expect_bar : (sched m).expect (barCell c) 0 = 7 := by
  unfold Schedule.expect Schedule.amountOf
  rw [duties_bar, Finset.sum_congr rfl fun d _ => amount_bar m c d]; decide
/-- A send cell expects a row. -/
theorem expect_send (hd : d ≠ 0) : (sched m).expect (sendCell c d) 0 = N := by
  unfold Schedule.expect Schedule.amountOf; rw [duties_send m c d hd, Finset.sum_singleton, amount_dma]
/-- A receive cell expects a row. -/
theorem expect_recv (hd : d ≠ 0) : (sched m).expect (recvCell c d) 0 = N := by
  unfold Schedule.expect Schedule.amountOf; rw [duties_recv m c d hd, Finset.sum_singleton, amount_dma]

/-- A barrier duty's payload. -/
theorem payload_bar : (sched m).payload (barCell c) 0 d = landing c d := by dsimp only [sched]; exact if_pos rfl
/-- A receive duty's payload. -/
theorem payload_recv : (sched m).payload (recvCell c d) 0 d = rowPts c (peer c (-d)) fullShare (tot m) := by
  dsimp only [sched]; rw [if_neg (dma_ne_bar _), if_pos rfl]
/-- A send duty's payload. -/
theorem payload_send : (sched m).payload (sendCell c d) 0 d = rowPts c c (leaf d) (tot m) := by
  dsimp only [sched]; rw [if_neg (dma_ne_bar _), if_neg (send_ne_recv _ _), if_pos rfl]

/-- All a barrier cell's round hands over. -/
theorem rest_bar : bigSep ((sched m).duties (barCell c) 0 \ ∅) (fun d => (sched m).payload (barCell c) 0 d) = bigSep offs fun d => landing c d := by
  rw [Finset.sdiff_empty, duties_bar]; exact bigSep_congr fun d _ => payload_bar m c d
/-- All a send cell's round hands over. -/
theorem rest_send (hd : d ≠ 0) : bigSep ((sched m).duties (sendCell c d) 0 \ ∅) (fun e => (sched m).payload (sendCell c d) 0 e) = rowPts c c (leaf d) (tot m) := by
  rw [Finset.sdiff_empty, duties_send m c d hd, bigSep_singleton, payload_send]
/-- All a receive cell's round hands over. -/
theorem rest_recv (hd : d ≠ 0) : bigSep ((sched m).duties (recvCell c d) 0 \ ∅) (fun e => (sched m).payload (recvCell c d) 0 e)
    = rowPts c (peer c (-d)) fullShare (tot m) := by
  rw [Finset.sdiff_empty, duties_recv m c d hd, bigSep_singleton, payload_recv]

end Tables

/-! ## What each device owes, and the order of waiting -/

/-- What is owed while the transfers to the distances `rs` are still to come, the next in order the outermost summand. -/
def owedRows (c : Dev nD) : List (Fin 8) → CellTallies nD τ sig Unit
  | [] => 0
  | r :: rs => owedRows c rs + tallyAt (recvCell (peer c r) r) () N
/-- The same while the barrier signals to the distances `bs` are still to come too. -/
def owed (c : Dev nD) (bs rs : List (Fin 8)) : CellTallies nD τ sig Unit :=
  match bs with
  | [] => owedRows c rs
  | b :: bs => owed c bs rs + tallyAt (barCell (peer c b)) () 1

/-- Rows are owed to receive cells. -/
theorem owedRows_pos {c : Dev nD} {g : GSem nD τ sig} {u : Unit} (rs : List (Fin 8)) (h : 0 < owedRows c rs g u) : ∃ r, g = recvCell (peer c r) r := by
  induction rs with
  | nil => simp [owedRows] at h
  | cons r rs ih =>
    unfold owedRows at h
    rw [Pi.add_apply, Finsupp.add_apply, tallyAt_apply] at h
    by_cases hg : g = recvCell (peer c r) r ∧ u = ()
    · exact ⟨r, hg.1⟩
    · rw [if_neg hg] at h; exact ih h
/-- Whatever is owed is owed to a barrier cell or to a receive cell, and to no barrier cell once the signals are sent. -/
theorem owed_pos {c : Dev nD} {g : GSem nD τ sig} {u : Unit} (bs rs : List (Fin 8)) (h : 0 < owed c bs rs g u) :
    (∃ r, g = recvCell (peer c r) r) ∨ (bs ≠ [] ∧ ∃ b, g = barCell (peer c b)) := by
  induction bs with
  | nil => exact .inl (owedRows_pos rs h)
  | cons b bs ih =>
    unfold owed at h
    rw [Pi.add_apply, Finsupp.add_apply, tallyAt_apply] at h
    by_cases hg : g = barCell (peer c b) ∧ u = ()
    · exact .inr ⟨List.cons_ne_nil _ _, b, hg.1⟩
    · rw [if_neg hg] at h
      exact (ih h).imp id fun ⟨_, h'⟩ => ⟨List.cons_ne_nil _ _, h'⟩

/-- The labels in use: one, on the cells of TensorCores. -/
def L (g : GSem nD τ sig) : Finset Unit := if g.1.2 = .tc then {()} else ∅
/-- The order of waiting: staging and send cells first, then barrier cells, then receive cells. -/
def lv (g : GSem nD τ sig) (_ : Unit) : ℕ := if g.2 = .reg barS then 1 else if ∃ d, g.2 = .dma (recvS d) then 2 else 0

/-- Off the TensorCores there is no label. -/
theorem L_of_ne (g : GSem nD τ sig) (h : g.1.2 ≠ .tc) : L g = ∅ := if_neg h
/-- On them there is the one. -/
theorem L_tc (c : Dev nD) (sm : SemLoc sig) : L ((c : Thread nD τ), sm) = {()} := if_pos rfl
/-- A barrier cell's place. -/
theorem lv_bar (c : Dev nD) (u : Unit) : lv (barCell c) u = 1 := if_pos rfl
/-- A receive cell's place. -/
theorem lv_recv (c : Dev nD) (d : Fin 8) (u : Unit) : lv (recvCell c d) u = 2 := by
  unfold lv; rw [if_neg (dma_ne_bar _), if_pos ⟨d, rfl⟩]

/-- Owing anything at all, a device may wait on a semaphore that is neither the barrier's nor a receive semaphore. -/
theorem mayWait_low (c : Dev nD) (q : DmaSem sig) (hq : ∀ d, SemLoc.dma q ≠ .dma (recvS d)) (bs rs : List (Fin 8)) :
    (levAts L lv : sProp 𝕄) ⊢ MayWait (c : Thread nD τ) (.dma q) () (owed c bs rs) :=
  MayOwe.of_cut (L := L) (lev := lv) 0 (fun p hp => by rw [Finset.mem_singleton.mp hp, L_tc]; exact Finset.mem_singleton_self _)
    (fun g u hg => by rcases owed_pos bs rs hg with ⟨r, rfl⟩ | ⟨-, b, rfl⟩ <;> exact Finset.mem_singleton_self _)
    (fun p hp => by
      rw [Finset.mem_singleton.mp hp]; unfold lv; rw [if_neg (dma_ne_bar _), if_neg fun ⟨d, h⟩ => hq d h])
    (fun g u hg => by
      rcases owed_pos bs rs hg with ⟨r, rfl⟩ | ⟨-, b, rfl⟩
      · rw [lv_recv]; decide
      · rw [lv_bar]; decide)

/-- Owing transfers only, a device may wait on its barrier. -/
theorem mayWait_bar (c : Dev nD) (rs : List (Fin 8)) :
    (levAts L lv : sProp 𝕄) ⊢ MayWait (c : Thread nD τ) (.reg barS) () (owed c [] rs) :=
  MayOwe.of_cut (L := L) (lev := lv) 1 (fun p hp => by rw [Finset.mem_singleton.mp hp, L_tc]; exact Finset.mem_singleton_self _)
    (fun g u hg => by
      rcases owed_pos [] rs hg with ⟨r, rfl⟩ | ⟨h, -⟩
      · exact Finset.mem_singleton_self _
      · exact absurd rfl h)
    (fun p hp => by rw [Finset.mem_singleton.mp hp]; exact le_of_eq (lv_bar c _))
    (fun g u hg => by
      rcases owed_pos [] rs hg with ⟨r, rfl⟩ | ⟨h, -⟩
      · rw [lv_recv]; decide
      · exact absurd rfl h)

/-- Owing nothing, a device may wait on anything. -/
theorem mayWait_free (c : Dev nD) (sm : SemLoc sig) : (levAts L lv : sProp 𝕄) ⊢ MayWait (c : Thread nD τ) sm () 0 := by
  rw [MayWait_zero]; iintro -; iempintro

end Cert.KernelRun

end
-- ==== Proof.Steps.lean ====
/-
One rule for each kind of step the kernel takes, at any device and any distance: a barrier signal, the barrier wait, a
transfer, a wait for a transfer's landing. The kernel's run is these rules, one after another.
-/
module

public import proofs.«01_k».proof.Proof.Cells
public import Idealize.ShloMosaic.Lib.Pipeline.BigSepL

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel calls nothing that needs a variant. -/
abbrev 𝒱₀ : Variants := Variants.none

/-! ## What every device may know -/

/-- The semaphores a device has in the run: its barrier's, its send and its receive semaphores. -/
abbrev Slot : Type := Unit ⊕ (Fin 8 ⊕ Fin 8)
/-- Which semaphore each is. -/
abbrev csem : Slot → SemLoc sig
  | .inl _ => .reg barS
  | .inr (.inl d) => .dma (sendS d)
  | .inr (.inr d) => .dma (recvS d)
/-- The cell of a device's semaphore. -/
abbrev cell (x : Dev nD × Slot) : GSem nD τ sig := ((x.1 : Thread nD τ), csem x.2)

/-- Every cell's invariant, under the names the launch gave them; and that every cell has begun. -/
def known0 (K : Dev nD × Slot → ℕ) : sProp 𝕄 :=
  iprop((bigSep Finset.univ fun x : Dev nD × Slot => cellInv ER (sched m) (K x) (cell x))
    ∗ bigSep Finset.univ fun x : Dev nD × Slot => reached ER (cell x) 0)
/-- The same with the order of waiting. -/
def known (K : Dev nD × Slot → ℕ) : sProp 𝕄 := iprop(known0 m K ∗ levAts L lv)

instance known0_persistent (K : Dev nD × Slot → ℕ) : BI.Persistent (known0 (F := F) m K) := by unfold known0; infer_instance
instance known_persistent (K : Dev nD × Slot → ℕ) : BI.Persistent (known (F := F) m K) := by unfold known; infer_instance

/-- A cell's invariant is known; -/
theorem known_inv (K : Dev nD × Slot → ℕ) (x : Dev nD × Slot) : known m K ⊢ cellInv ER (sched m) (K x) (cell x) := by
  unfold known known0
  exact sep_elim_left.trans (sep_elim_left.trans (bigSep_elim (Φ := fun x => cellInv ER (sched m) (K x) (cell x)) (Finset.mem_univ x)))
/-- and that it has begun; -/
theorem known_reached (K : Dev nD × Slot → ℕ) (x : Dev nD × Slot) : known m K ⊢ reached ER (cell x) 0 := by
  unfold known known0
  exact sep_elim_left.trans (sep_elim_right.trans (bigSep_elim (Φ := fun x => reached ER (cell x) 0) (Finset.mem_univ x)))
/-- and the order of waiting. -/
theorem known_levels (K : Dev nD × Slot → ℕ) : known (F := F) m K ⊢ levAts L lv := by
  unfold known
  exact sep_elim_right

/-- What a device owes, whatever it has waited on so far. -/
def owesAny (c : Dev nD) (O : CellTallies nD τ sig Unit) : sProp 𝕄 := iprop(∃ W, owes (c : Thread nD τ) O W)

/-! ## The states between steps -/

/-- With barrier signals to the distances `bs` to come: the units owed, the duty tokens to pay them with, the rows to hand over. -/
def signals (c : Dev nD) (bs : List (Fin 8)) : sProp 𝕄 :=
  iprop(owesAny c (owed c bs offL)
    ∗ bigSepL bs fun d => iprop(dutyTok ER (barCell (peer c d)) 0 (-d) ∗ ∃ f, rowPts c (peer c d) fullShare f))

/-- With transfers to the distances `rs` to come: the rows owed, for each its two duty tokens, a share of the row to send and
    the row to fill; and for those done, the right to wait for the source's semaphore. -/
def sends (c : Dev nD) (done rs : List (Fin 8)) : sProp 𝕄 :=
  iprop(owesAny c (owed c [] rs)
    ∗ (bigSepL rs fun d => iprop(dutyTok ER (sendCell c d) 0 d ∗ dutyTok ER (recvCell (peer c d) d) 0 d ∗ rowPts c c (leaf d) (tot m) ∗ landing c d))
    ∗ bigSepL done fun d => cred (tallyAt (sendCell c d) () N))

/-- With waits at the distances `ds` to come on one of the two arrays of semaphores: for each, the right to wait and the
    cell's position; for those done, what the cell handed over and its counter at zero again. -/
def waiting (c : Dev nD) (q : Fin 8 → DmaSem sig) (R : Fin 8 → sProp 𝕄) (done ds : List (Fin 8)) : sProp 𝕄 :=
  iprop(owesAny c 0
    ∗ (bigSepL ds fun d => iprop(cred (tallyAt ((c : Thread nD τ), .dma (q d)) () N) ∗ atPos ER ((c : Thread nD τ), .dma (q d)) 0 ∅ 0))
    ∗ bigSepL done fun d => iprop(R d ∗ semVal ((c : Thread nD τ), .dma (q d)) 0))

section Rules

variable (K : Dev nD × Slot → ℕ)

/-- A barrier signal to the device at distance `d`. -/
theorem step_signal (c n : Dev nD) (d : Fin 8) (bs : List (Fin 8)) (hd : d ≠ 0) (hn : n = peer c d) (v : Int) (hv : v = ((1 : ℕ) : Int))
    {α : Type} {Q : α → sProp 𝕄} {k : PUnit → Prog (TpuEff nD τ sig (Elt F) Λ₀ .tc) α} :
    known m K ⊢ iprop(signals c (d :: bs) -∗ (signals c bs -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS v) k) Q) := by
  subst hn hv
  unfold signals owesAny
  rw [bigSepL_cons']
  iintro #HK ⟨⟨%W, HO⟩, ⟨Ht, Hrow⟩, Hrest⟩ Hk
  iapply (Rounds.wp_signal 𝒱₀ ER (sched m) (c : Thread nD τ) none (dst := (peer c d : Thread nD τ)) (κ := K (peer c d, .inl ())) (r := 0)
    (d := -d) (by rw [duties_bar]; exact Finset.mem_erase.mpr ⟨neg_ne d hd, Finset.mem_univ _⟩) (amount_bar m (peer c d) (-d)) () (owed c bs offL) rfl) $$ [HO Ht Hrow]
  · isplitr; · iapply (known_inv m K (peer c d, .inl ())); iexact HK
    isplitl [HO]; · iexact HO
    isplitl [Ht]; · iexact Ht
    isplitl [Hrow]
    · rw [payload_bar]; unfold landing; rw [peer_back]; iexact Hrow
    iapply (known_reached m K (peer c d, .inl ())); iexact HK
  iintro HO
  iapply Hk
  isplitl [HO]; · iexists W; iexact HO
  iexact Hrest

/-- The barrier wait: every other device has handed over the row this device will fill there. -/
theorem step_barrier (c : Dev nD) (rs : List (Fin 8)) (v : Int) (hv : v = ((7 : ℕ) : Int))
    {α : Type} {Q : α → sProp 𝕄} {k : PUnit → Prog (TpuEff nD τ sig (Elt F) Λ₀ .tc) α} :
    known m K ⊢ iprop(iprop(owesAny c (owed c [] rs) ∗ cred (tallyAt (barCell c) () 7) ∗ atPos ER (barCell c) 0 ∅ 0)
      -∗ (iprop(owesAny c (owed c [] rs) ∗ semVal (barCell c) 0 ∗ bigSep offs fun d => landing c d) -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS v) k) Q) := by
  subst hv
  unfold owesAny
  iintro #HK ⟨⟨%W, HO⟩, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := owed c [] rs) (W := W) (R := 0) (m := 0) (T := ∅)
      (by rw [expect_bar])) $$ [Hc HO Hat]
  · isplitr; · iapply (known_inv m K (c, .inl ())); iexact HK
    isplitl [Hc]; · iexact Hc
    isplitl [HO]; · iexact HO
    isplitr; · iapply (mayWait_bar c rs); iapply (known_levels m K); iexact HK
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (known_inv m K (c, .inl ())); iexact HK
    iexact Hat
  iapply Hk
  isplitl [HO]; · iexists _; iexact HO
  isplitl [Hz] <;> iassumption

/-- The transfer of a device's own row to the device at distance `d`. -/
theorem step_send (c n : Dev nD) (d : Fin 8) (done rs : List (Fin 8)) (hd : d ≠ 0) (hn : n = peer c d)
    (off : Fin 3 → ℕ) (h : ∀ a, off a + S1x1x256.size a ≤ S8x1x256.size a) (ho : off = rowOff c)
    {hsc : (rowM off h : Memref sig (Dev.tc n : Thread nD τ).2.kind .vmem S1x256 .f32).view.ref.isScScratch = false}
    {hsrc : (rowM off h).view.WordExact} {hdst : (rowM off h).view.WordExact}
    {hsem : DmaTarget.Typed .vmem (.dma (recvS d)) (.remote (Dev.tc n : Thread nD τ) (rowM off h) (.dma (sendS d)) hsc)}
    {α : Type} {Q : α → sProp 𝕄} {k : PUnit → Prog (TpuEff nD τ sig (Elt F) Λ₀ .tc) α} :
    known m K ⊢ iprop(sends m c done (d :: rs) -∗ (sends m c (done ++ [d]) rs -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (rowM off h) (.remote (Dev.tc n : Thread nD τ) (rowM off h) (.dma (sendS d)) hsc) (.dma (recvS d)) hsrc hdst hsem) k) Q) := by
  subst hn ho
  unfold sends owesAny
  rw [bigSepL_cons', bigSepL_append]
  iintro #HK ⟨⟨%W, HO⟩, ⟨⟨Hts, Htr, Hrow, Hland⟩, Hrest⟩, Hdone⟩ Hk
  unfold landing
  icases Hland with ⟨%fd, Hland⟩
  iapply (Rounds.wp_send_pointsTo 𝒱₀ ER (sched m) (c : Thread nD τ) none (κ₁ := K (c, .inr (.inl d))) (κ₂ := K (peer c d, .inr (.inr d)))
      (c' := (peer c d : Thread nD τ)) (src := rowM (rowOff c) (rowOff_inb c)) (dst := rowM (rowOff c) (rowOff_inb c)) (sS := .dma (sendS d)) (sem := .dma (recvS d))
      (r₁ := 0) (r₂ := 0) (d₁ := d) (d₂ := d) (q := leaf d) (fs := tot m) (fd := fd)
      (by rw [duties_send m c d hd]; exact Finset.mem_singleton_self _) (by rw [duties_recv m _ d hd]; exact Finset.mem_singleton_self _)
      () () N (N_row _ _) (amount_dma m c d _) (amount_dma m (peer c d) d _) (owed c [] rs) rfl (W := W)
      (by rw [payload_send]; exact Entails.of_eq (rowPts_view c c (leaf d) (tot m)).symm)
      (by rw [payload_recv, peer_back]; exact landed_row (peer c d) c fd (tot m))) $$ [HO Hts Htr Hrow Hland]
  · isplitr; · iapply (known_inv m K (c, .inr (.inl d))); iexact HK
    isplitr; · iapply (known_inv m K (peer c d, .inr (.inr d))); iexact HK
    isplitl [Hrow]; · iapply (Entails.of_eq (rowPts_view c c (leaf d) (tot m))); iexact Hrow
    isplitl [Hland]; · iapply (Entails.of_eq (rowPts_view (peer c d) c fullShare fd)); iexact Hland
    isplitl [HO]; · iexact HO
    isplitl [Hts]; · iexact Hts
    isplitr; · iapply (known_reached m K (c, .inr (.inl d))); iexact HK
    isplitl [Htr]; · iexact Htr
    iapply (known_reached m K (peer c d, .inr (.inr d))); iexact HK
  iintro ⟨Hc, HO⟩
  iapply Hk
  isplitl [HO]; · iexists W; iexact HO
  isplitl [Hrest]; · iexact Hrest
  rw [bigSepL_singleton]
  isplitl [Hdone] <;> iassumption

/-- A wait for a row on a semaphore whose cell hands over `R d` at its one duty. -/
theorem step_wait (c : Dev nD) (q : Fin 8 → DmaSem sig) (R : Fin 8 → sProp 𝕄) (x : Fin 8 → Slot) (hx : ∀ d, csem (x d) = .dma (q d)) (d : Fin 8)
    (hE : (sched m).expect ((c : Thread nD τ), .dma (q d)) 0 = N)
    (hR : bigSep ((sched m).duties ((c : Thread nD τ), .dma (q d)) 0 \ ∅) (fun e => (sched m).payload ((c : Thread nD τ), .dma (q d)) 0 e) = R d)
    (done ds : List (Fin 8)) {off off' : Fin 3 → ℕ} {h : ∀ a, off a + S1x1x256.size a ≤ S8x1x256.size a} {h' : ∀ a, off' a + S1x1x256.size a ≤ S8x1x256.size a}
    {hsrc : (rowM off h).view.WordExact} {hdst : (rowM off' h').view.WordExact}
    {α : Type} {Q : α → sProp 𝕄} {k : PUnit → Prog (TpuEff nD τ sig (Elt F) Λ₀ .tc) α} :
    known m K ⊢ iprop(waiting c q R done (d :: ds) -∗ (waiting c q R (done ++ [d]) ds -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (q d) (rowM off h) (rowM off' h') hsrc hdst) k) Q) := by
  unfold waiting owesAny
  rw [bigSepL_cons', bigSepL_append]
  have hI : known m K ⊢ cellInv ER (sched m) (K (c, x d)) ((c : Thread nD τ), .dma (q d)) := by
    have := known_inv m K (c, x d); unfold cell at this; rwa [hx d] at this
  iintro #HK ⟨⟨%W, HO⟩, ⟨⟨Hc, Hat⟩, Hrest⟩, Hdone⟩ Hk
  iapply (Rounds.wp_wait_rest_token 𝒱₀ ER (sched m) (c : Thread nD τ) none (κ := K (c, x d))
      (wpE_waitDma2_eq 𝒱₀ (c : Thread nD τ) none Set.univ) (Set.mem_univ _) () (O := 0) (W := W) (R := 0) (m := 0) (T := ∅)
      (by rw [Nat.zero_add, hE])) $$ [Hc HO Hat]
  · isplitr; · iapply hI; iexact HK
    isplitl [Hc]; · iexact Hc
    isplitl [HO]; · iexact HO
    isplitr; · rw [MayWait_zero]; iempintro
    iexact Hat
  iintro ⟨HO, Hat, -, Hpay⟩
  ihave Hp := (Entails.of_eq hR) $$ Hpay
  imod (Rounds.cell_close ER (sched m) (Set.mem_univ (K (c, x d))) (fun h => h) (R := 0 + 1) (duties_later m ((c : Thread nD τ), .dma (q d)))) $$ [Hat] with Hz
  · isplitr; · iapply hI; iexact HK
    iexact Hat
  iapply Hk
  isplitl [HO]; · iexists _; iexact HO
  isplitl [Hrest]; · iexact Hrest
  isplitl [Hdone]; · iexact Hdone
  rw [bigSepL_singleton]
  isplitl [Hp] <;> iassumption

/-- A wait for the row of the device `d` before. -/
theorem step_recv (c : Dev nD) (d : Fin 8) (hd : d ≠ 0)
    (done ds : List (Fin 8)) {off off' : Fin 3 → ℕ} {h : ∀ a, off a + S1x1x256.size a ≤ S8x1x256.size a} {h' : ∀ a, off' a + S1x1x256.size a ≤ S8x1x256.size a}
    {hsrc : (rowM off h).view.WordExact} {hdst : (rowM off' h').view.WordExact}
    {α : Type} {Q : α → sProp 𝕄} {k : PUnit → Prog (TpuEff nD τ sig (Elt F) Λ₀ .tc) α} :
    known m K ⊢ iprop(waiting c recvS (fun d => rowPts c (peer c (-d)) fullShare (tot m)) done (d :: ds)
      -∗ (waiting c recvS (fun d => rowPts c (peer c (-d)) fullShare (tot m)) (done ++ [d]) ds -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (recvS d) (rowM off h) (rowM off' h') hsrc hdst) k) Q) :=
  step_wait m K c recvS _ (fun d => .inr (.inr d)) (fun _ => rfl) d (expect_recv m c d hd) (rest_recv m c d hd) done ds

/-- A wait for a share of the row sent to the device at distance `d`. -/
theorem step_sent (c : Dev nD) (d : Fin 8) (hd : d ≠ 0)
    (done ds : List (Fin 8)) {off off' : Fin 3 → ℕ} {h : ∀ a, off a + S1x1x256.size a ≤ S8x1x256.size a} {h' : ∀ a, off' a + S1x1x256.size a ≤ S8x1x256.size a}
    {hsrc : (rowM off h).view.WordExact} {hdst : (rowM off' h').view.WordExact}
    {α : Type} {Q : α → sProp 𝕄} {k : PUnit → Prog (TpuEff nD τ sig (Elt F) Λ₀ .tc) α} :
    known m K ⊢ iprop(waiting c sendS (fun d => rowPts c c (leaf d) (tot m)) done (d :: ds)
      -∗ (waiting c sendS (fun d => rowPts c c (leaf d) (tot m)) (done ++ [d]) ds -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (sendS d) (rowM off h) (rowM off' h') hsrc hdst) k) Q) :=
  step_wait m K c sendS _ (fun d => .inr (.inl d)) (fun _ => rfl) d (expect_send m c d hd) (rest_send m c d hd) done ds

end Rules

end Cert.KernelRun

end
-- ==== Proof.Body.lean ====
/-
The kernel's run on one device, from the resources the launch deals it to those it gives back.
-/
module

public import proofs.«01_k».proof.Proof.Steps
public import proofs.«01_k».proof.Proof.Gen.KernelIdeal.Points

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The positions of a device's own cells. -/
def positions (c : Dev nD) : sProp 𝕄 :=
  iprop(atPos ER (barCell c) 0 ∅ 0 ∗ (bigSep Finset.univ fun d => atPos ER (sendCell c d) 0 ∅ 0) ∗ bigSep Finset.univ fun d => atPos ER (recvCell c d) 0 ∅ 0)
/-- The tokens of the duties a device pays. -/
def payToks (c : Dev nD) : sProp 𝕄 :=
  iprop((bigSep offs fun d => dutyTok ER (barCell (peer c d)) 0 (-d)) ∗ (bigSep offs fun d => dutyTok ER (recvCell (peer c d) d) 0 d)
    ∗ bigSep offs fun d => dutyTok ER (sendCell c d) 0 d)
/-- The rights to wait a device is launched with. -/
def rights (c : Dev nD) : sProp 𝕄 :=
  iprop(cred (tallyAt (barCell c) () 7) ∗ bigSep offs fun d => cred (tallyAt (recvCell c d) () N))

/-- All a device is dealt, its buffer apart. -/
def start (c : Dev nD) : sProp 𝕄 := iprop((∃ K, known m K ∗ positions c ∗ payToks c) ∗ rights c)
/-- The whole buffer at some contents. -/
def someBuf (c : Dev nD) : sProp 𝕄 := iprop(∃ f : Buf (Elt F) ((c : Thread nD τ).loc cc0_scratch0), ((c : Thread nD τ).loc cc0_scratch0) ↦{fullShare} f)
/-- Before the body. -/
def Φ₀ (c : Dev nD) : sProp 𝕄 := iprop(start m c ∗ someBuf c)
/-- After it: the buffer, and every counter at zero again. -/
def Φ₁ (c : Dev nD) : sProp 𝕄 :=
  iprop(someBuf c ∗ semVal (barCell c) 0 ∗ (bigSep Finset.univ fun d => semVal (sendCell c d) 0) ∗ bigSep Finset.univ fun d => semVal (recvCell c d) 0)

/-- The proof data of the one pipeline. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => owed c offL offL
    | ⟨_ + 1, _⟩ => 0

/-! ## Lemmas -/

/-- A conjunction over the seven distances is the one down their list. -/
theorem offs_list {M : Type} [URA M] (Φ : Fin 8 → sProp M) : bigSep offs Φ = bigSepL offL Φ :=
  bigSep_eq_bigSepL_of_eq offL (by decide) (by decide) Φ

section Body

variable (K : Dev nD × Slot → ℕ)

/-- The rectangle of a whole block. -/
abbrev full2 : Rect S256x256 := Rect.unit (s := S256x256) ![0, 0] S256x256.size inb_S256x256_S256x256_0_0

/-- It starts at the origin. -/
theorem zero2 : (![0, 0] : Fin 2 → Nat) = fun _ => 0 := funext fun a => by fin_cases a <;> rfl
/-- So does that of the whole buffer. -/
theorem zero3 : (![0, 0, 0] : Fin 3 → Nat) = fun _ => 0 := funext fun a => by fin_cases a <;> rfl
omit [FloatOps F] in
/-- A load of the whole argument block is the block. -/
theorem read_x (f : (cc0_stg0_0 : Ref sig .tc).ty.Contents (Elt F)) : (xM : Memref sig .tc .vmem S256x256 .f32).view.readAt (Elt F) full2.toLoadRect f = f :=
  Memref.readAt_unit_zero (Elt F) cc0_stg0_0 zero2 _ f
omit [FloatOps F] in
/-- A load of the whole buffer is the buffer. -/
theorem read_buf (f : (cc0_scratch0 : Ref sig .tc).ty.Contents (Elt F)) :
    (cM : Memref sig .tc .vmem S8x1x256 .f32).view.readAt (Elt F) (Rect.unit (s := S8x1x256) ![0, 0, 0] S8x1x256.size inb_S8x1x256_S8x1x256_0_0_0).toLoadRect f = f :=
  Memref.readAt_unit_zero (Elt F) cc0_scratch0 zero3 _ f
omit [FloatOps F] in
/-- A store to the whole result block leaves what is stored. -/
theorem write_out (f w : (cc0_stg1_0 : Ref sig .tc).ty.Contents (Elt F)) :
    ((oM : Memref sig .tc .vmem S256x256 .f32).access full2 : View sig .tc _ _ _).write (Elt F) f w Finset.univ = w :=
  Memref.write_access_unit_zero_univ (Elt F) cc0_stg1_0 zero2 _ f w

/-- The device's own row is read and then overwritten with its column totals. -/
theorem step_publish (c : Dev nD) (f : Buf (Elt F) ((c : Thread nD τ).loc cc0_scratch0))
    (off : Fin 3 → ℕ) (h : ∀ a, off a + S1x1x256.size a ≤ S8x1x256.size a) (ho : off = rowOff c)
    {hl : (cM : Memref sig .tc .vmem S8x1x256 .f32).view.LoadsAt (rowRect off h).toLoadRect}
    {hx : ((cM : Memref sig .tc .vmem S8x1x256 .f32).access (rowRect off h)).Stores Finset.univ} {hm : (Finset.univ : Finset (rowRect off h).shape.Idx) = Finset.univ ∨ ∀ a, (rowRect off h).stride a = 1}
    {α : Type} {Q : α → sProp 𝕄} {k : PUnit → Prog (TpuEff nD τ sig (Elt F) Λ₀ .tc) α} :
    rowPts c c fullShare f ⊢ iprop((rowPts c c fullShare (tot m) -∗ wp frame (wpE (defs₀ (F := F)) 𝒱₀ (c : Thread nD τ) none) Set.univ (k ⟨⟩) Q)
      -∗ wp frame (wpE (defs₀ (F := F)) 𝒱₀ (c : Thread nD τ) none) Set.univ
          (.op (.load cM (rowRect off h).toLoadRect hl) fun _ => .op (.store cM (rowRect off h) (k0_pay2 (xstg m c)) Finset.univ hx hm) k) Q) := by
  subst ho
  rw [rowPts_access c c fullShare f]
  iintro Hrow Hk
  iapply (wp_load_rect 𝒱₀ (c : Thread nD τ) none Set.univ (m := cM) (r := rowRect (rowOff c) (rowOff_inb c)) (Finset.Subset.refl _)) $$ Hrow; iintro Hrow
  iapply (wp_store 𝒱₀ (c : Thread nD τ) none Set.univ (m := cM) (r := rowRect (rowOff c) (rowOff_inb c)) (Mk := Finset.univ)
    (S := ((cM : Memref sig .tc .vmem S8x1x256 .f32).access (rowRect (rowOff c) (rowOff_inb c))).set) (View.setOn_subset_set _ _)) $$ Hrow; iintro Hrow
  iapply Hk
  iapply (stored_row m c f) $$ Hrow

/-- The send and receive cells at distance zero are closed unused. -/
theorem close_unused (x : Dev nD × Slot) (h : (sched m).duties (cell x) 0 = ∅) :
    known m K ⊢ iprop(atPos ER (cell x) 0 ∅ 0 -∗ |={Set.univ}=> semVal (cell x) 0) := by
  iintro #HK Hat
  iapply (Rounds.cell_close ER (sched m) (Set.mem_univ (K x)) (fun h => h) (R := 0) (fun r _ => by
    rcases Nat.eq_zero_or_pos r with rfl | hr
    · exact h
    · exact duties_later m _ r hr))
  isplitr; · iapply (known_inv m K x); iexact HK
  iexact Hat

/-- Dealt the tokens and rows of its signals, a device is set to signal. -/
theorem signals_intro (c : Dev nD) (f : Buf (Elt F) ((c : Thread nD τ).loc cc0_scratch0)) :
    iprop(owesAny c (owed c offL offL) ∗ (bigSep offs fun d => dutyTok ER (barCell (peer c d)) 0 (-d)) ∗ bigSep offs fun d => rowPts c (peer c d) fullShare f)
      ⊢ (signals c offL : sProp 𝕄) := by
  unfold signals
  rw [← offs_list]
  refine sep_mono_right ?_
  rw [← bigSep_sep']
  have h (d : Fin 8) : iprop(dutyTok ER (barCell (peer c d)) 0 (-d) ∗ rowPts c (peer c d) fullShare f)
      ⊢ (iprop(dutyTok ER (barCell (peer c d)) 0 (-d) ∗ ∃ f, rowPts c (peer c d) fullShare f) : sProp 𝕄) := by
    iintro ⟨Ht, H⟩
    isplitl [Ht]; · iexact Ht
    iexists f; iexact H
  exact bigSep_mono fun d _ => h d
/-- Dealt the tokens of its transfers, its row in shares and the rows handed over at the barrier, a device is set to send. -/
theorem sends_intro (c : Dev nD) :
    iprop(owesAny c (owed c [] offL) ∗ (bigSep offs fun d => dutyTok ER (sendCell c d) 0 d) ∗ (bigSep offs fun d => dutyTok ER (recvCell (peer c d) d) 0 d)
      ∗ rowRest c c (tot m) ∗ bigSep offs fun d => landing c d)
      ⊢ sends m c [] offL := by
  unfold sends rowRest
  rw [← offs_list, bigSep_sep', bigSep_sep', bigSep_sep', bigSepL_nil]
  iintro ⟨H, H1, H2, H3, H4⟩
  isplitl [H]; · iexact H
  isplitl [H1 H2 H3 H4]
  · isplitl [H1]; · iexact H1
    isplitl [H2]; · iexact H2
    isplitl [H3] <;> iassumption
  iempintro
/-- All sent, nothing is owed and every transfer's source may be waited for. -/
theorem sends_elim (c : Dev nD) : sends m c offL [] ⊢ iprop(owesAny c 0 ∗ bigSep offs fun d => cred (tallyAt (sendCell c d) () N)) := by
  unfold sends
  rw [← offs_list]
  iintro ⟨H, -, H1⟩
  isplitl [H]; · iexact H
  iexact H1
/-- With the rights to wait and the positions, a device is set to wait. -/
theorem waiting_intro (c : Dev nD) (q : Fin 8 → DmaSem sig) (R : Fin 8 → sProp 𝕄) :
    iprop(owesAny c 0 ∗ (bigSep offs fun d => cred (tallyAt ((c : Thread nD τ), .dma (q d)) () N)) ∗ bigSep offs fun d => atPos ER ((c : Thread nD τ), .dma (q d)) 0 ∅ 0)
      ⊢ waiting c q R [] offL := by
  unfold waiting
  rw [← offs_list, bigSep_sep', bigSepL_nil]
  iintro ⟨H, H1, H2⟩
  isplitl [H]; · iexact H
  isplitl [H1 H2]
  · isplitl [H1] <;> iassumption
  iempintro
/-- All waited for, a device has what was handed over and the counters at zero. -/
theorem waiting_elim (c : Dev nD) (q : Fin 8 → DmaSem sig) (R : Fin 8 → sProp 𝕄) :
    waiting c q R offL [] ⊢ iprop(owesAny c 0 ∗ (bigSep offs R) ∗ bigSep offs fun d => semVal ((c : Thread nD τ), .dma (q d)) 0) := by
  unfold waiting
  rw [← offs_list, bigSep_sep']
  iintro ⟨H, -, H1⟩
  isplitl [H]; · iexact H
  iexact H1

/-! ## The body -/

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m 0 c).owesAt () (t0_0 : Fin cfg0.N).castSucc
    ∗ (∃ d, stg c cc0_stg0_0 ((dats m 0 c).before (0 : Fin 2) t0_0 d))
    ∗ (∃ d, stg c cc0_stg1_0 ((dats m 0 c).before (1 : Fin 2) t0_0 d)))

/-- What it ends with. -/
def bodyPost (c : Dev nD) : sProp 𝕄 :=
  iprop(Φ₁ c ∗ (dats m 0 c).owesAt () (t0_0 : Fin cfg0.N).succ ∗ stg c cc0_stg0_0 (xstg m c) ∗ stg c cc0_stg1_0 (outAt m c))

set_option maxHeartbeats 4000000 in
set_option maxRecDepth 65536 in
/-- The body, step by step. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre Φ₀ start someBuf positions payToks rights
  iintro ⟨⟨⟨⟨⟨%K, #HK, ⟨HatB, HatS, HatR⟩, HtB, HtR, HtS⟩, HcB, HcR⟩, ⟨%f0, Hbuf⟩⟩, Ho, ⟨%d0, %g0, %hg0, Hx⟩, ⟨%d1, %g1, %hg1, Hout⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed (t0_0 : Fin cfg0.N).castSucc = owed c offL offL from rfl]
  -- the unused cells
  ihave HatS' := (Entails.of_eq (bigSep_zero (M := 𝕄) _)) $$ HatS
  icases HatS' with ⟨HatS0, HatS⟩
  ihave HatR' := (Entails.of_eq (bigSep_zero (M := 𝕄) _)) $$ HatR
  icases HatR' with ⟨HatR0, HatR⟩
  imod (close_unused m K (c, .inr (.inl 0)) (duties_send_zero m c)) $$ HK HatS0 with HzS0
  imod (close_unused m K (c, .inr (.inr 0)) (duties_recv_zero m c)) $$ HK HatR0 with HzR0
  -- the signals
  ihave Hrows := (Entails.of_eq (whole_ahead c fullShare f0)) $$ Hbuf
  icases Hrows with ⟨Hown, Hrows⟩
  ihave Hst := (signals_intro c f0) $$ [HO HtB Hrows]
  · isplitl [HO]; · unfold owesAny; iexists W; iexact HO
    isplitl [HtB] <;> iassumption
  iapply (step_signal m K c _ 1 _ (by decide) (Fin.ext (k0_dev1_eq c)) _ rfl) $$ HK Hst; iintro Hst
  iapply (step_signal m K c _ 2 _ (by decide) (Fin.ext (k0_dev2_eq c)) _ rfl) $$ HK Hst; iintro Hst
  iapply (step_signal m K c _ 3 _ (by decide) (Fin.ext (k0_dev3_eq c)) _ rfl) $$ HK Hst; iintro Hst
  iapply (step_signal m K c _ 4 _ (by decide) (Fin.ext (k0_dev4_eq c)) _ rfl) $$ HK Hst; iintro Hst
  iapply (step_signal m K c _ 5 _ (by decide) (Fin.ext (k0_dev5_eq c)) _ rfl) $$ HK Hst; iintro Hst
  iapply (step_signal m K c _ 6 _ (by decide) (Fin.ext (k0_dev6_eq c)) _ rfl) $$ HK Hst; iintro Hst
  iapply (step_signal m K c _ 7 _ (by decide) (Fin.ext (k0_dev7_eq c)) _ rfl) $$ HK Hst; iintro Hst
  unfold signals
  icases Hst with ⟨HO, -⟩
  -- the argument block, the barrier, the device's own row
  iapply (wp_load 𝒱₀ (c : Thread nD τ) none Set.univ (m := xM) (Finset.subset_univ _)) $$ Hx; iintro Hx
  rw [read_x]
  iapply (step_barrier m K c offL _ rfl) $$ HK [HO HcB HatB]
  · isplitl [HO]; · iexact HO
    isplitl [HcB] <;> iassumption
  iintro ⟨HO, HzB, Hland⟩
  iapply (step_publish m c f0 _ _ (k0_off1_eq c)) $$ Hown; iintro Hown
  ihave Hown' := (Entails.of_eq (rowPts_leaves c c (tot m))) $$ Hown
  icases Hown' with ⟨Hown, Hlent⟩
  -- the transfers
  ihave Hst := (sends_intro m c) $$ [HO HtS HtR Hlent Hland]
  · isplitl [HO]; · iexact HO
    isplitl [HtS]; · iexact HtS
    isplitl [HtR]; · iexact HtR
    isplitl [Hlent] <;> iassumption
  iapply (step_send m K c _ 1 _ _ (by decide) (Fin.ext (k0_dev8_eq c)) _ _ (k0_off2_eq c)) $$ HK Hst; iintro Hst
  iapply (step_send m K c _ 2 _ _ (by decide) (Fin.ext (k0_dev9_eq c)) _ _ (k0_off2_eq c)) $$ HK Hst; iintro Hst
  iapply (step_send m K c _ 3 _ _ (by decide) (Fin.ext (k0_dev10_eq c)) _ _ (k0_off2_eq c)) $$ HK Hst; iintro Hst
  iapply (step_send m K c _ 4 _ _ (by decide) (Fin.ext (k0_dev11_eq c)) _ _ (k0_off2_eq c)) $$ HK Hst; iintro Hst
  iapply (step_send m K c _ 5 _ _ (by decide) (Fin.ext (k0_dev12_eq c)) _ _ (k0_off2_eq c)) $$ HK Hst; iintro Hst
  iapply (step_send m K c _ 6 _ _ (by decide) (Fin.ext (k0_dev13_eq c)) _ _ (k0_off2_eq c)) $$ HK Hst; iintro Hst
  iapply (step_send m K c _ 7 _ _ (by decide) (Fin.ext (k0_dev14_eq c)) _ _ (k0_off2_eq c)) $$ HK Hst; iintro Hst
  ihave Hst' := (show sends m c ([] ++ [1] ++ [2] ++ [3] ++ [4] ++ [5] ++ [6] ++ [7]) [] ⊢ _ from sends_elim m c) $$ Hst
  icases Hst' with ⟨HO, HcS⟩
  -- the rows of the others
  ihave Hst := (waiting_intro c recvS fun d => rowPts c (peer c (-d)) fullShare (tot m)) $$ [HO HcR HatR]
  · isplitl [HO]; · iexact HO
    isplitl [HcR] <;> iassumption
  iapply (step_recv m K c 1 (by decide) _ _) $$ HK Hst; iintro Hst
  iapply (step_recv m K c 2 (by decide) _ _) $$ HK Hst; iintro Hst
  iapply (step_recv m K c 3 (by decide) _ _) $$ HK Hst; iintro Hst
  iapply (step_recv m K c 4 (by decide) _ _) $$ HK Hst; iintro Hst
  iapply (step_recv m K c 5 (by decide) _ _) $$ HK Hst; iintro Hst
  iapply (step_recv m K c 6 (by decide) _ _) $$ HK Hst; iintro Hst
  iapply (step_recv m K c 7 (by decide) _ _) $$ HK Hst; iintro Hst
  ihave Hst' := (show waiting c recvS (fun d => rowPts c (peer c (-d)) fullShare (tot m)) ([] ++ [1] ++ [2] ++ [3] ++ [4] ++ [5] ++ [6] ++ [7]) [] ⊢ _
    from waiting_elim c recvS _) $$ Hst
  icases Hst' with ⟨HO, Hrows, HzR⟩
  -- the whole buffer is read, and the result block stored
  ihave Hbuf' := (Entails.of_eq (gather_leaf c (tot m))) $$ [Hown Hrows]
  · isplitl [Hown] <;> iassumption
  icases Hbuf' with ⟨Hbuf, Hothers⟩
  iapply (wp_load 𝒱₀ (c : Thread nD τ) none Set.univ (m := cM) (Finset.subset_univ _)) $$ Hbuf; iintro Hbuf
  rw [read_buf]
  iapply (wp_load 𝒱₀ (c : Thread nD τ) none Set.univ (m := oM) (Finset.subset_univ _)) $$ Hout; iintro Hout
  iapply (wp_store 𝒱₀ (c : Thread nD τ) none Set.univ (m := oM) (r := full2) (Mk := Finset.univ) (Finset.subset_univ _)) $$ Hout; iintro Hout
  rw [write_out]
  -- the shares lent come back
  ihave Hst := (waiting_intro c sendS fun d => rowPts c c (leaf d) (tot m)) $$ [HO HcS HatS]
  · isplitl [HO]; · iexact HO
    isplitl [HcS] <;> iassumption
  iapply (step_sent m K c 1 (by decide) _ _) $$ HK Hst; iintro Hst
  iapply (step_sent m K c 2 (by decide) _ _) $$ HK Hst; iintro Hst
  iapply (step_sent m K c 3 (by decide) _ _) $$ HK Hst; iintro Hst
  iapply (step_sent m K c 4 (by decide) _ _) $$ HK Hst; iintro Hst
  iapply (step_sent m K c 5 (by decide) _ _) $$ HK Hst; iintro Hst
  iapply (step_sent m K c 6 (by decide) _ _) $$ HK Hst; iintro Hst
  iapply (step_sent m K c 7 (by decide) _ _) $$ HK Hst; iintro Hst
  ihave Hst' := (show waiting c sendS (fun d => rowPts c c (leaf d) (tot m)) ([] ++ [1] ++ [2] ++ [3] ++ [4] ++ [5] ++ [6] ++ [7]) [] ⊢ _
    from waiting_elim c sendS _) $$ Hst
  icases Hst' with ⟨HO, Hlent, HzS⟩
  rw [wp_ret]; imodintro
  iapply Hk
  unfold bodyPost Φ₁ someBuf Dat.owesAt Pipeline.owesWithin
  rw [show (dats m 0 c).owed (t0_0 : Fin cfg0.N).succ = 0 from rfl]
  isplitl [Hbuf Hothers Hlent HzB HzS HzS0 HzR HzR0]
  · isplitl [Hbuf Hothers Hlent]
    · iexists (tot m)
      iapply (gather_full c (tot m))
      isplitl [Hbuf]; · iexact Hbuf
      isplitl [Hothers]; · iexact Hothers
      unfold rowRest; iexact Hlent
    isplitl [HzB]; · iexact HzB
    isplitl [HzS HzS0]
    · rw [bigSep_zero]; isplitl [HzS0] <;> iassumption
    · rw [bigSep_zero]; isplitl [HzR0] <;> iassumption
  isplitl [HO]
  · unfold owesAny
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
/-- A whole memref's buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- The library's obligation on the body. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  iintro H
  iapply (sound_body m c fun _ => bodyPost m c)
  isplitl [H]; · iexact H
  iintro H; iexact H

end Body

end Cert.KernelRun

end
-- ==== Proof.Deal.lean ====
/-
What the launch deals each device: the invariants of all cells, its own positions, the tokens of the duties it pays (minted
at the cells' owners and passed round), and the rights to wait for what the others owe it.
-/
module

public import proofs.«01_k».proof.Proof.Body

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores: those of its two arrays. -/
abbrev osem (x : Fin 8 ⊕ Fin 8) : SemLoc sig := csem (.inr x)
/-- They are told apart, and none stages a block. -/
theorem ownSemFacts : Pipeline.OwnSemFacts cfg0.spec osem := by decide

/-- Different semaphores of a device are different. -/
theorem csem_injective : Function.Injective csem := by decide
/-- Different semaphores anywhere are different cells. -/
theorem cell_injective : Function.Injective (cell : Dev nD × Slot → GSem nD τ sig) := by
  rintro ⟨c, k⟩ ⟨c', k'⟩ h
  exact Prod.ext (congrArg (fun g : GSem nD τ sig => g.1.1) h) (csem_injective (congrArg Prod.snd h))
/-- All the cells. -/
def allCells : Finset (GSem nD τ sig) := Finset.univ.map ⟨cell, cell_injective⟩

/-- The token of duty `d` at one of the three kinds of cell of device `c`. -/
abbrev tokOf (x : Dev nD × Fin 3 × Fin 8) : GSem nD τ sig × ℕ × Fin 8 :=
  (cell (x.1, (match x.2.1 with | 0 => .inl () | 1 => .inr (.inl x.2.2) | 2 => .inr (.inr x.2.2))), 0, x.2.2)
/-- Tokens are told apart by the device, the kind of cell and the duty. -/
theorem tokOf_injective : Function.Injective tokOf := by
  rintro ⟨c, k, d⟩ ⟨c', k', d'⟩ h
  have hd : d = d' := congrArg (fun y : GSem nD τ sig × ℕ × Fin 8 => y.2.2) h
  subst hd
  have hc := cell_injective (congrArg Prod.fst h)
  have h1 : c = c' := congrArg Prod.fst hc
  subst h1
  have h2 := congrArg Prod.snd hc
  have : k = k' := by
    fin_cases k <;> fin_cases k' <;> first | rfl | exact absurd h2 (fun h => by cases h)
  subst this; rfl
/-- All the tokens. -/
def allToks : Finset (GSem nD τ sig × ℕ × Fin 8) := Finset.univ.map ⟨tokOf, tokOf_injective⟩

/-- The element of the algebra the run starts from. -/
def u₀ : UU := (initOf (Pipeline.cells cfgs cellOf_inj) (Pipeline.launchToks cfgs cellOf_inj), initOf allCells allToks)

/-- The tokens minted at a device's own cells. -/
def mint (c : Dev nD) : sProp 𝕄 :=
  iprop((bigSep Finset.univ fun d => dutyTok ER (barCell c) 0 d) ∗ (bigSep Finset.univ fun d => dutyTok ER (sendCell c d) 0 d)
    ∗ bigSep Finset.univ fun d => dutyTok ER (recvCell c d) 0 d)

/-- The rounds of a device's cells before their invariants are made. -/
def states (c : Dev nD) : sProp 𝕄 := bigSep Finset.univ fun k : Slot => roundState ER (sched m) (cell (c, k)) 0
/-- The positions of a device's cells, and that they have begun. -/
def begun (c : Dev nD) : sProp 𝕄 := bigSep Finset.univ fun k : Slot => iprop(atPos ER (cell (c, k)) 0 ∅ 0 ∗ reached ER (cell (c, k)) 0)
/-- What a device is first dealt. -/
def G (c : Dev nD) : sProp 𝕄 := iprop(states m c ∗ begun c ∗ mint c)
/-- What it has once the invariants are made and the tokens passed round. -/
def G' (c : Dev nD) : sProp 𝕄 := iprop(∃ K, known0 m K ∗ positions c ∗ payToks c)

/-- The first deal, out of the starting element. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Slot => Φ (cell (c, k)) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]
    refine bigSep_congr fun c _ => ?_
    unfold mint; rw [bigSep_univ_prod, bigSep_univ_eq_bigSepL [0, 1, 2] (by decide) (by decide)]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states begun; simp only [bigSep_sep']
  isplitl [Hst']; · iexact Hst'
  isplitl [Hat' Hr']
  · isplitl [Hat'] <;> iassumption
  iexact Htok'

/-! ## The invariants -/

/-- The one semaphore that is no array's is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The kernel's own counters, array by array. -/
theorem ownSems0_eq (c : Dev nD) : (Pipeline.ownSems0 (Ix := Unit) (Name := ℕ) (U := UU) (Lvl := ℕ) (Val := Elt F) (τ := τ) osem c : sProp 𝕄)
    = iprop((bigSep Finset.univ fun d => semVal (sendCell c d) 0) ∗ bigSep Finset.univ fun d => semVal (recvCell c d) 0) := by
  unfold Pipeline.ownSems0; rw [bigSep_univ_sum]; rfl
/-- A conjunction over a device's semaphores, kind by kind. -/
theorem bigSep_slot (Φ : Slot → sProp 𝕄) :
    bigSep Finset.univ Φ = iprop(Φ (.inl ()) ∗ (bigSep Finset.univ fun d => Φ (.inr (.inl d))) ∗ bigSep Finset.univ fun d => Φ (.inr (.inr d))) := by
  rw [bigSep_univ_sum, bigSep_univ_sum, bigSep_univ_eq_bigSepL [()] (by decide) (by decide)]; rfl

/-- Each device makes its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Slot => iprop(∃ κ : ℕ, cellInv ER (sched m) κ (cell (c, k)))) ∗ begun c ∗ mint c) := by
  unfold G states
  rw [ownSems0_eq, unscopedSems0_eq]
  iintro ⟨Hos, Hus, Hst, Hat, Htok⟩
  imod (show iprop((bigSep Finset.univ fun k : Slot => semVal (cell (c, k)) 0) ∗ bigSep Finset.univ fun k : Slot => roundState ER (sched m) (cell (c, k)) 0)
      ⊢ (|={Set.univ}=> bigSep Finset.univ fun k : Slot => iprop(∃ κ : ℕ, cellInv ER (sched m) κ (cell (c, k))) : sProp 𝕄) from by
        rw [← bigSep_sep']
        exact (bigSep_mono fun k _ => (Rounds.body_intro ER (sched m) (cell (c, k))).trans inv_alloc).trans (bigSep_fupd _ _)) $$ [Hos Hus Hst] with Hinv
  · isplitl [Hos Hus]
    · rw [bigSep_slot]; isplitl [Hus] <;> iassumption
    iexact Hst
  imodintro
  isplitl [Hinv]; · iexact Hinv
  isplitl [Hat] <;> iassumption

/-- A device and a distance, sent to the device at that distance and the same distance. -/
def onward : Dev nD × Fin 8 ≃ Dev nD × Fin 8 :=
  ⟨fun x => (peer x.1 x.2, x.2), fun x => ((shift x.2).symm x.1, x.2), fun x => Prod.ext ((shift x.2).symm_apply_apply x.1) rfl,
    fun x => Prod.ext ((shift x.2).apply_symm_apply x.1) rfl⟩
/-- Tokens over device and duty, renamed to be those of the devices ahead. -/
theorem deal_ahead (Φ : Dev nD → Fin 8 → sProp 𝕄) :
    (bigSep Finset.univ fun c : Dev nD => bigSep Finset.univ fun d => Φ c d) = bigSep Finset.univ fun c : Dev nD => bigSep Finset.univ fun d => Φ (peer c d) d := by
  rw [← bigSep_univ_prod fun x : Dev nD × Fin 8 => Φ x.1 x.2, bigSep_univ_equiv onward, bigSep_univ_prod]; rfl
/-- The opposite distance. -/
def opposite : Fin 8 ≃ Fin 8 := ⟨fun d => -d, fun d => -d, by decide, by decide⟩
/-- A device's duties renamed to their opposites. -/
theorem deal_neg (Φ : Fin 8 → sProp 𝕄) : bigSep Finset.univ Φ = bigSep Finset.univ fun d => Φ (-d) :=
  bigSep_univ_equiv opposite Φ
/-- What is over all distances is over those that are not zero. -/
theorem drop_zero (Φ : Fin 8 → sProp 𝕄) : bigSep Finset.univ Φ ⊢ bigSep offs Φ := bigSep_subset (Finset.subset_univ _)

/-- So on every device. -/
theorem drop_zeros (Φ : Dev nD → Fin 8 → sProp 𝕄) :
    (bigSep Finset.univ fun c : Dev nD => bigSep Finset.univ (Φ c)) ⊢ bigSep Finset.univ fun c : Dev nD => bigSep offs (Φ c) :=
  bigSep_mono fun c _ => drop_zero (Φ c)

/-- The tokens passed round: each to the device that pays the duty. -/
theorem toks_around : (bigSep Finset.univ fun c : Dev nD => (mint c : sProp 𝕄)) ⊢ bigSep Finset.univ fun c : Dev nD => payToks c := by
  unfold mint payToks
  rw [bigSep_sep', bigSep_sep', bigSep_sep', bigSep_sep']
  rw [bigSep_congr (s := Finset.univ) (fun (c : Dev nD) _ => deal_neg fun d => (dutyTok ER (barCell c) 0 d : sProp 𝕄)),
    deal_ahead fun c d => (dutyTok ER (barCell c) 0 (-d) : sProp 𝕄), deal_ahead fun c d => (dutyTok ER (recvCell c d) 0 d : sProp 𝕄)]
  iintro ⟨H1, H2, H3⟩
  isplitl [H1]; · iapply (drop_zeros fun c d => (dutyTok ER (barCell (peer c d)) 0 (-d) : sProp 𝕄)) $$ H1
  isplitl [H3]; · iapply (drop_zeros fun c d => (dutyTok ER (recvCell (peer c d) d) 0 d : sProp 𝕄)) $$ H3
  iapply (drop_zeros fun c d => (dutyTok ER (sendCell c d) 0 d : sProp 𝕄)) $$ H2

/-- A persistent fact beside every member of a conjunction. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The second deal, out of the first's remains. -/
theorem regroup :
    (bigSep Finset.univ fun c : Dev nD => iprop((bigSep Finset.univ fun k : Slot => iprop(∃ κ : ℕ, cellInv ER (sched m) κ (cell (c, k)))) ∗ begun c ∗ mint c) : sProp 𝕄)
      ⊢ bigSep Finset.univ (G' m) := by
  unfold begun
  rw [bigSep_sep', bigSep_sep', ← bigSep_univ_prod (fun x : Dev nD × Slot => iprop(∃ κ : ℕ, cellInv ER (sched m) κ (cell x))),
    bigSep_congr (s := Finset.univ) (fun (c : Dev nD) _ => bigSep_sep' Finset.univ (fun k : Slot => (atPos ER (cell (c, k)) 0 ∅ 0 : sProp 𝕄)) (fun k => reached ER (cell (c, k)) 0)),
    bigSep_sep', ← bigSep_univ_prod (fun x : Dev nD × Slot => (reached ER (cell x) 0 : sProp 𝕄))]
  iintro ⟨HI, ⟨Hat, #HR⟩, Htok⟩
  ihave HK := (BI.bigSep_exists_pi Finset.univ (fun (x : Dev nD × Slot) (κ : ℕ) => (cellInv ER (sched m) κ (cell x) : sProp 𝕄))) $$ HI
  icases HK with ⟨%K, #HI⟩
  ihave Htk := (toks_around (F := F)) $$ Htok
  have hgive (c : Dev nD) : iprop(known0 m K ∗ (bigSep Finset.univ fun k : Slot => (atPos ER (cell (c, k)) 0 ∅ 0 : sProp 𝕄)) ∗ payToks c) ⊢ G' m c := by
    unfold G' positions
    rw [bigSep_slot]
    iintro ⟨H, H1, H2⟩
    iexists K
    isplitl [H]; · iexact H
    isplitl [H1] <;> iassumption
  iapply (bigSep_beside (R := known0 m K) fun c _ => hgive c)
  isplitr
  · unfold known0; isplitl; · iexact HI
    iexact HR
  rw [bigSep_sep']
  isplitl [Hat]; · iexact Hat
  iexact Htk

/-- Both deals, over all devices at once. -/
theorem deal : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The rights to wait -/

/-- What a device owes a barrier cell: a unit for each of its signals to that device. -/
theorem owed_at_bar (a c : Dev nD) (bs rs : List (Fin 8)) : owed a bs rs (barCell c) () = bs.countP (fun b => peer a b = c) := by
  induction bs with
  | nil =>
    rw [List.countP_nil]
    by_contra h
    obtain ⟨r, h⟩ := owedRows_pos rs (Nat.pos_of_ne_zero h)
    exact (dma_ne_bar _) (congrArg Prod.snd h).symm
  | cons b bs ih =>
    unfold owed
    rw [Pi.add_apply, Finsupp.add_apply, ih, tallyAt_apply, List.countP_cons]
    congr 1
    by_cases h : peer a b = c
    · rw [h, if_pos ⟨rfl, rfl⟩, if_pos (by simp)]
    · rw [if_neg fun h' => h (congrArg (fun g : GSem nD τ sig => g.1.1) h'.1).symm, if_neg (by simpa using h)]
/-- What a device owes a receive cell: a row for its transfer at that distance to that device. -/
theorem owedRows_at_recv (a c : Dev nD) (d : Fin 8) (rs : List (Fin 8)) : owedRows a rs (recvCell c d) () = rs.countP (fun r => peer a r = c ∧ r = d) * N := by
  induction rs with
  | nil => rw [List.countP_nil, Nat.zero_mul]; rfl
  | cons r rs ih =>
    unfold owedRows
    rw [Pi.add_apply, Finsupp.add_apply, ih, tallyAt_apply, List.countP_cons, Nat.add_mul]
    congr 1
    by_cases h : peer a r = c ∧ r = d
    · obtain ⟨rfl, rfl⟩ := h; rw [if_pos ⟨rfl, rfl⟩, if_pos (by simp), Nat.one_mul]
    · rw [if_neg fun h' => h ⟨(congrArg (fun g : GSem nD τ sig => g.1.1) h'.1).symm, (recvS_inj _ _ (congrArg Prod.snd h'.1)).symm⟩, if_neg (by simpa using h), Nat.zero_mul]
/-- Signals are no matter of a receive cell's. -/
theorem owed_at_recv (a c : Dev nD) (d : Fin 8) (bs rs : List (Fin 8)) : owed a bs rs (recvCell c d) () = rs.countP (fun r => peer a r = c ∧ r = d) * N := by
  induction bs with
  | nil => exact owedRows_at_recv a c d rs
  | cons b bs ih =>
    unfold owed
    rw [Pi.add_apply, Finsupp.add_apply, ih, tallyAt_ne_cell (fun h => (dma_ne_bar _) (congrArg Prod.snd h)), Finsupp.zero_apply, Nat.add_zero]

/-- What every device owes at launch. -/
abbrev O₀ (c : Dev nD) : CellTallies nD τ sig Unit := owed c offL offL

/-- Seven devices signal each one's barrier. -/
theorem count_bar : ∀ c : Dev nD, ∑ a : Dev nD, offL.countP (fun b => peer a b = c) = 7 := by decide
/-- One device sends to each one at each distance. -/
theorem count_recv : ∀ (c : Dev nD) (d : Fin 8), d ≠ 0 → ∑ a : Dev nD, offL.countP (fun r => peer a r = c ∧ r = d) = 1 := by decide

/-- The launch's credit at a barrier cell. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun a _ => owed_at_bar a c offL offL, count_bar]
/-- The launch's credit at a receive cell. -/
theorem launch_recv (c : Dev nD) (d : Fin 8) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun a _ => owed_at_recv a c d offL offL, ← Finset.sum_mul, count_recv c d hd, Nat.one_mul]

/-- The rights to wait each device is launched with. -/
theorem rights_intro (c : Dev nD) : (Pipeline.launchCred O₀ c : sProp 𝕄) ⊢ rights c := by
  unfold Pipeline.launchCred rights
  rw [bigSep_univ_at _ (SemLoc.reg barS), launch_bar]
  refine sep_mono_right ?_
  have hsub : offs.image (fun d => (SemLoc.dma (recvS d) : SemLoc sig)) ⊆ Finset.univ.erase (SemLoc.reg barS) := fun s hs => by
    obtain ⟨d, -, rfl⟩ := Finset.mem_image.mp hs
    exact Finset.mem_erase.mpr ⟨dma_ne_bar _, Finset.mem_univ _⟩
  refine (bigSep_subset hsub).trans ?_
  rw [bigSep_image_of_injOn (fun d _ e _ h => recvS_inj d e h)]
  exact Entails.of_eq (bigSep_congr fun d hd => by rw [launch_recv c d (Finset.mem_erase.mp hd).1])

end Cert.KernelRun

end
-- ==== Proof.Launch.lean ====
/-
The run of the whole kernel, for any float values: it ends, the argument is as it was, the result block of every
device holds `outAt`, and every counter is zero again.
-/
module

public import proofs.«01_k».proof.Proof.Deal
public import Idealize.ShloMosaic.Lib.Pipeline.Value
public import Idealize.ShloMosaic.Lib.Pipeline.CollectiveSegs
public import proofs.«01_k».proof.Proof.Gen.KernelIdeal.Points

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device holds both its arrays whole. -/
theorem share_eq (c : Dev nD) (w : Fin cfg0.W) : (dats m 0 c).share w = fullShare := by unfold Dat.share; split <;> rfl

/-- What a device starts its body with, out of what it was dealt. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨%K, HK, Hpos, Htok⟩⟩
  ihave Hc := (rights_intro (F := F) c) $$ Hcr
  imodintro
  isplitl
  · isplitr [Hc]
    · iexists K
      unfold known
      isplitl [HK Hlev]
      · isplitl [HK] <;> iassumption
      isplitl [Hpos] <;> iassumption
    · iexact Hc
  · iempintro

/-- The buffer joins it: that is what the body is entered with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ someBuf
  iintro ⟨Hs, -, Hr⟩
  isplitl [Hs] <;> iassumption

/-- What the body leaves gives back the counters and the buffer. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ someBuf
  iintro ⟨Hr, HzB, HzS, HzV⟩
  isplitl [HzB]; · iexact HzB
  isplitl [HzS HzV]
  · isplitl [HzS] <;> iassumption
  iexact Hr

/-- A staging wait is allowed whatever is owed at the time. -/
theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_low c _ (by fin_cases w <;> fin_cases s <;> decide) offL offL
    · exact mayWait_free c _

/-- The contents of an array after the run. -/
def finalA (c : Dev nD) (w : Fin cfg0.W) : Buf (Elt F) ((cfg0.win w).arr.view.loc (c : Thread nD τ)) := (dats m 0 c).arrAt w cfg0.N

set_option maxRecDepth 8000 in
/-- The run, as the launch tells it. -/
theorem run_arrays : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The argument is as it was. -/
theorem finalA_arg (c : Dev nD) : finalA m c (0 : Fin 2) = m ((c : Thread nD τ).loc main_arg0) :=
  (dats (F := F) m 0 c).arrAt_in (0 : Fin 2) rfl _

/-- The one block of the argument is all of it. -/
theorem xstg_eq (c : Dev nD) : xstg m c = m ((c : Thread nD τ).loc main_arg0) :=
  Memref.read_access_unit_zero (Elt F) main_arg0 (off := fun a => 0 * _) (funext fun a => Nat.zero_mul _) _ _

/-- The one block of the result is all of it. -/
theorem read_res (t : Fin cfg0.N) (v : (main_v1 : Ref sig .tc).ty.Contents (Elt F)) : ((cfg0.win 1).blk t).view.read (Elt F) v = v := by
  obtain rfl := fin_N0 t
  exact Memref.read_access_unit_zero (Elt F) main_v1 (off := fun a => 0 * _) (funext fun a => Nat.zero_mul _) _ _

/-- The result array holds what the body stored. -/
theorem finalA_out (c : Dev nD) : finalA m c (1 : Fin 2) = outAt m c := by
  unfold finalA
  refine (dats m 0 c).arrAt_eq_of_cover 1 (outAt m c) (fun t _ => ?_) fun i => ⟨t0_0, flush0_1 _, ?_⟩
  · rw [read_res]; obtain rfl := fin_N0 t; rfl
  · show i ∈ ((View.whole main_v1).slice (win0_1.rect t0_0)).set
    rw [View.set_slice_whole]
    exact View.mem_set_unit_zero (funext fun a => Nat.zero_mul _) _ i

/-- The run of the kernel. -/
theorem run_main : θ_run defs (onTc (τ := τ) (main (F := F))) (s₀ m ρ)
    (fun r => (∀ c : Dev nD, r.2.mem ((c : Thread nD τ).loc main_v1) = outAt m c ∧ r.2.mem ((c : Thread nD τ).loc main_arg0) = m ((c : Thread nD τ).loc main_arg0))
      ∧ r.2.sem = fun _ => 0) :=
  (θ_run defs _ _).mono (fun _ h => ⟨fun c => ⟨(h.1 c 1).trans (finalA_out m c), (h.1 c 0).trans (finalA_arg m c)⟩, h.2⟩) (run_arrays m ρ)

end Cert.KernelRun

end
-- ==== Proof.Product.lean ====
/-
The running product down the rows of a 2048 × 256 array of extended reals, as plain mathematics.
-/
module

public import Idealize.ShloMosaic.Lib.ValueLayout
public import Idealize.ShloMosaic.PureOps.Ideal.Laws
public import Mathlib.Data.EReal.Inv

@[expose] public section

noncomputable section

namespace Cert.Product

open Idealize.ShloMosaic Idealize.ShloMosaic.ValueIdx

/-- An array of 2048 rows of 256 extended reals. -/
abbrev Arr := (⟨2, ![2048, 256]⟩ : Shape).Idx → EReal

/-- Entry `(r, j)`, and one where there is no row `r`. -/
def entry (x : Arr) (r : ℕ) (j : Fin 256) : EReal := if h : r < 2048 then x (ix2 ⟨r, h⟩ j) else 1

/-- The product of the first `n` entries of column `j`. -/
def run (x : Arr) (n : ℕ) (j : Fin 256) : EReal := ∏ r ∈ Finset.range n, entry x r j

/-- The running product: entry `(i, j)` is the product of the entries of column `j` up to row `i`. -/
def cum (x : Arr) : Arr := fun i => run x ((i 0).val + 1) (i 1)

/-- An entry of a row there is. -/
theorem entry_of_lt (x : Arr) (r : ℕ) (h : r < 2048) (j : Fin 256) : entry x r j = x (ix2 ⟨r, h⟩ j) := dif_pos h

/-- No entries have product one. -/
theorem run_zero (x : Arr) (j : Fin 256) : run x 0 j = 1 := Finset.prod_range_zero _

/-- One entry more is one factor more. -/
theorem run_succ (x : Arr) (n : ℕ) (j : Fin 256) : run x (n + 1) j = run x n j * entry x n j := Finset.prod_range_succ _ _

end Cert.Product

end
-- ==== Proof.Exp.lean ====
/-
The exponential and the logarithm of extended reals: sums to products, and back from logarithms of what is not negative.
-/
module

public import proofs.«01_k».proof.Proof.Product

@[expose] public section

noncomputable section

namespace Cert.Product

open Idealize.ShloMosaic

/-- The exponential is at least zero. -/
theorem exp_nonneg (a : EReal) : 0 ≤ Ideal.exp a := by
  induction a using EReal.rec with
  | bot => rw [Ideal.exp_bot]
  | coe r => rw [Ideal.exp_coe]; exact_mod_cast (Real.exp_pos r).le
  | top => rw [Ideal.exp_top]; exact le_top

/-- The exponential of zero is one. -/
theorem exp_zero : Ideal.exp 0 = 1 := by
  rw [← EReal.coe_zero, Ideal.exp_coe, Real.exp_zero, EReal.coe_one]

/-- The exponential of a sum is the product of the exponentials, at infinities too. -/
theorem exp_add (a b : EReal) : Ideal.exp (a + b) = Ideal.exp a * Ideal.exp b := by
  induction a using EReal.rec with
  | bot => rw [EReal.bot_add, Ideal.exp_bot, zero_mul]
  | coe r =>
    induction b using EReal.rec with
    | bot => rw [EReal.add_bot, Ideal.exp_bot, mul_zero]
    | coe s => rw [← EReal.coe_add, Ideal.exp_coe, Ideal.exp_coe, Ideal.exp_coe, Real.exp_add, EReal.coe_mul]
    | top => rw [EReal.coe_add_top, Ideal.exp_top, Ideal.exp_coe, EReal.coe_mul_top_of_pos (Real.exp_pos r)]
  | top =>
    induction b using EReal.rec with
    | bot => rw [EReal.add_bot, Ideal.exp_bot, mul_zero]
    | coe s => rw [EReal.top_add_coe, Ideal.exp_top, Ideal.exp_coe, EReal.top_mul_coe_of_pos (Real.exp_pos s)]
    | top => rw [EReal.top_add_top, Ideal.exp_top, EReal.top_mul_top]

/-- The same of a sum over a finite set. -/
theorem exp_sum {I : Type} (s : Finset I) (f : I → EReal) : Ideal.exp (∑ i ∈ s, f i) = ∏ i ∈ s, Ideal.exp (f i) := by
  classical
  induction s using Finset.induction_on with
  | empty => rw [Finset.sum_empty, Finset.prod_empty, exp_zero]
  | insert i s hi ih => rw [Finset.sum_insert hi, Finset.prod_insert hi, exp_add, ih]

/-- The exponential undoes the logarithm of what is not negative. -/
theorem exp_log (a : EReal) (h : 0 ≤ a) : Ideal.exp (Ideal.log a) = a := by
  induction a using EReal.rec with
  | bot => exact absurd h (by decide)
  | coe r =>
    have hr : 0 ≤ r := by exact_mod_cast h
    rw [Ideal.log_coe]
    split
    · rw [Ideal.exp_bot, le_antisymm ‹r ≤ 0› hr, EReal.coe_zero]
    · rw [Ideal.exp_coe, Real.exp_log (lt_of_not_ge ‹_›)]
  | top => rw [Ideal.log_top, Ideal.exp_top]

/-! ## The running product, block by block -/

/-- A product over the first `n` of `N` with a test is one over `n`. -/
theorem prod_below {N : ℕ} (n : ℕ) (h : n ≤ N) (f : ℕ → EReal) : (∏ k : Fin N, if k.val < n then f k.val else 1) = ∏ k ∈ Finset.range n, f k := by
  rw [Fin.prod_univ_eq_prod_range (fun k => if k < n then f k else 1) N, ← Finset.prod_filter]
  refine Finset.prod_congr (Finset.ext fun k => ?_) fun _ _ => rfl
  rw [Finset.mem_filter, Finset.mem_range, Finset.mem_range]
  omega

/-- The product of whole blocks of 256 rows. -/
theorem run_blocks (x : Arr) (c : ℕ) (j : Fin 256) :
    run x (256 * c) j = ∏ r ∈ Finset.range c, ∏ k ∈ Finset.range 256, entry x (256 * r + k) j := by
  induction c with
  | zero => exact Finset.prod_range_zero _
  | succ c ih => rw [Finset.prod_range_succ, ← ih]; exact Finset.prod_range_add _ _ _

/-- The running product at row `i` of block `c`: the rows of the block up to `i`, times the earlier blocks. -/
theorem run_block_row (x : Arr) (c : Fin 8) (i j : Fin 256) :
    run x (256 * c.val + i.val + 1) j
      = (∏ k : Fin 256, if k.val ≤ i.val then entry x (256 * c.val + k.val) j else 1)
        * ∏ r : Fin 8, if r.val < c.val then ∏ k : Fin 256, entry x (256 * r.val + k.val) j else 1 := by
  refine Eq.trans ?_ (mul_comm _ _)
  have h1 : (∏ k : Fin 256, if k.val ≤ i.val then entry x (256 * c.val + k.val) j else 1)
      = ∏ k ∈ Finset.range (i.val + 1), entry x (256 * c.val + k) j := by
    rw [← prod_below (N := 256) (i.val + 1) i.isLt]
    exact Finset.prod_congr rfl fun k _ => if_congr Nat.lt_succ_iff.symm rfl rfl
  have h2 : (∏ r : Fin 8, if r.val < c.val then ∏ k : Fin 256, entry x (256 * r.val + k.val) j else 1) = run x (256 * c.val) j := by
    rw [run_blocks, ← prod_below (N := 8) c.val c.isLt.le]
    exact Finset.prod_congr rfl fun r _ => if_congr Iff.rfl (Fin.prod_univ_eq_prod_range (fun k => entry x (256 * r.val + k) j) 256) rfl
  rw [h1, h2]
  exact Finset.prod_range_add (fun k => entry x k j) (256 * c.val) (i.val + 1)

end Cert.Product

end
-- ==== Proof.Value.lean ====
/-
What each device's result block holds, over the extended reals: at row `i` of block `c`, the product of the block's rows up to
`i` times the product of all earlier blocks.
-/
module

public import proofs.«01_k».proof.Proof.Launch
public import proofs.«01_k».proof.Proof.Exp
public import Idealize.ShloMosaic.Lib.MatmulPlain
public import Idealize.ShloMosaic.Lib.WordCmp
public import Idealize.ShloMosaic.PureOps.Ideal.Laws

@[expose] public section

noncomputable section

namespace Cert.KernelRun

open Cert.KernelIdeal Cert.KernelIdeal.Gen Cert.Product
open Idealize.ShloMosaic Idealize.ShloMosaic.TcCoe Idealize.ShloMosaic.ValueIdx

/-! ## The payloads at an index -/

/-- The logarithms of a block. -/
theorem logs_apply (v : FVec Ideal S256x256 .f32) (i : S256x256.Idx) : k0_pay1 (F := Ideal) v i = Ideal.log (v i) := by
  unfold k0_pay1 shapeCast
  show Ideal.log (v _) = _
  rw [Shape.reshapeEquiv_self]

/-- The column totals of a block's logarithms. -/
theorem totals_apply (v : FVec Ideal S256x256 .f32) (j : Fin 256) :
    k0_pay2 (F := Ideal) v (ix3 0 0 j) = ∑ k : Fin 256, Ideal.log (v (ix2 k j)) := by
  unfold k0_pay2
  refine (shapeCast_ab_1ab_apply _ _ _ _ _).trans ((shapeCast_a_1a_apply _ _ _ _).trans ?_)
  refine (Ideal.multiReduction_add_single _ _ reduces_S256x256_S256 _ _ _).trans ?_
  refine Finset.sum_congr rfl fun k _ => (logs_apply v _).trans (congrArg (fun i => Ideal.log (v i)) ?_)
  funext a; apply Fin.ext
  match a with
  | ⟨0, _⟩ => rfl
  | ⟨1, _⟩ => rfl

/-- The mask of the lower triangle, as an extended real. -/
theorem mask_apply (i k : Fin 256) :
    (sitofp .f32 (extui 32 (cmpi .sge (iota .tc S256x256 32 [0] iota_S256x256_d0_w32) (iota .tc S256x256 32 [1] iota_S256x256_d1_w32)) natLt_1_32)
      : FVec Ideal S256x256 .f32) (ix2 i k) = if k.val ≤ i.val then 1 else 0 := by
  show (((IntOp.cmpi .sge (iota .tc S256x256 32 [0] iota_S256x256_d0_w32 (ix2 i k)) (iota .tc S256x256 32 [1] iota_S256x256_d1_w32 (ix2 i k))).setWidth 32).toInt : ℝ) = ((_ : EReal))
  have hi := i.isLt
  have hk := k.isLt
  rw [iota_single_apply, iota_single_apply, WordCmp.cmpi_sge_ofNat (by show i.val < 2 ^ 31; omega) (by show k.val < 2 ^ 31; omega)]
  by_cases h : k.val ≤ i.val
  · rw [if_pos h, decide_eq_true h, show ((BitVec.ofBool true).setWidth 32).toInt = 1 from rfl, Int.cast_one, EReal.coe_one]
  · rw [if_neg h, decide_eq_false h, show ((BitVec.ofBool false).setWidth 32).toInt = 0 from rfl, Int.cast_zero, EReal.coe_zero]

/-- The exponentials of a block's running sums are its running products. -/
theorem scanned_apply (v : FVec Ideal S256x256 .f32) (hv : ∀ i, 0 ≤ v i) (i j : Fin 256) :
    k0_pay3 (F := Ideal) (k0_pay1 v) (ix2 i j) = ∏ k : Fin 256, if k.val ≤ i.val then v (ix2 k j) else 1 := by
  unfold k0_pay3
  show Ideal.exp (FloatOps.matmul (F := Ideal) (φ₁ := .bf16) (φ₂ := .bf16) (DotDims.plain 256 256 256) none _ _ _ (ix2 i j)) = _
  rw [Ideal.matmul_plain_apply]
  show Ideal.exp (Ideal.ofBits .f32 0x00000000#32 + ∑ k : Fin 256, _) = _
  rw [Ideal.ofBits_zero_f32, zero_add, exp_sum]
  refine Finset.prod_congr rfl fun k _ => ?_
  refine (congrArg Ideal.exp (congrArg₂ (· * ·) (mask_apply i k) (logs_apply v (ix2 k j)))).trans ?_
  split
  · rw [one_mul, exp_log _ (hv _)]
  · rw [zero_mul, exp_zero]

/-- The word a device compares rows with is its own number. -/
theorem word_self : ∀ c r : Fin 8, IntOp.cmpi .slt (BitVec.ofNat 32 r.val) (Scalar.remsi (Scalar.divsi (Dev.word (c : Dev nD)) 1#32) 8#32) = BitVec.ofBool (decide (r.val < c.val)) := by
  decide

/-- Of the gathered totals, those of earlier devices are kept; the others count as zero. -/
theorem kept_apply (c : Dev nD) (t : FVec Ideal S8x1x256 .f32) (j : Fin 256) (r : Fin 8) :
    Scalar.select (IntOp.cmpi .slt (iota .tc S8x1x256 32 [0] iota_S8x1x256_d0_w32 (ix3 r 0 j))
        (Scalar.remsi (Scalar.divsi (Dev.word c) 1#32) 8#32)) (t (ix3 r 0 j)) (0 : EReal)
      = if r.val < c.val then t (ix3 r 0 j) else 0 := by
  rw [iota_single_apply]
  show Scalar.select (IntOp.cmpi .slt (BitVec.ofNat 32 r.val) _) _ _ = _
  rw [word_self c r]
  by_cases h : r.val < c.val
  · rw [if_pos h, decide_eq_true h]; rfl
  · rw [if_neg h, decide_eq_false h]; rfl

/-- The result block: scaled by the exponential of the totals of the rows before the device's. -/
theorem scaled_apply (c : Dev nD) (z : FVec Ideal S256x256 .f32) (t : FVec Ideal S8x1x256 .f32) (i j : Fin 256) :
    k0_pay4 (F := Ideal) (Scalar.remsi (Scalar.divsi (Dev.word c) 1#32) 8#32) z t (ix2 i j)
      = z (ix2 i j) * ∏ r : Fin 8, Ideal.exp (if r.val < c.val then t (ix3 r 0 j) else 0) := by
  unfold k0_pay4
  refine congrArg (z (ix2 i j) * ·) ?_
  rw [← exp_sum]
  show Ideal.exp (multiReduction (F := Ideal) (φ := .f32) .add [0] S1x256 _ _ reduces_S8x1x256_S1x256 _ _ _) = _
  refine congrArg Ideal.exp ((Ideal.multiReduction_add_single _ _ reduces_S8x1x256_S1x256 _ _ _).trans (Finset.sum_congr rfl fun r _ => ?_))
  show Scalar.select (IntOp.cmpi .slt (iota .tc S8x1x256 32 [0] iota_S8x1x256_d0_w32 (reduces_S8x1x256_S1x256.lift _ r)) _) _ (Ideal.ofBits .f32 0x00000000#32) = _
  have hl : ∀ q : S1x256.Idx, q 1 = j → reduces_S8x1x256_S1x256.lift q r = ix3 r 0 j := fun q hq => by
    funext a; apply Fin.ext
    match a with
    | ⟨0, _⟩ => rfl
    | ⟨1, _⟩ => exact congrArg Fin.val (Subsingleton.elim (α := Fin 1) _ _)
    | ⟨2, _⟩ => exact congrArg Fin.val hq
  rw [hl _ rfl, Ideal.ofBits_zero_f32]
  exact kept_apply c t j r

/-! ## The result block -/

variable (m : (ℓ : Loc nD τ sig) → Buf (Elt Ideal) ℓ)

/-- The block device `c` is given. -/
def blockIn (c : Dev nD) : FVec Ideal S256x256 .f32 := m ((c : Thread nD τ).loc main_arg0)

/-- What row `r` of the gathered totals holds in column `j`. -/
theorem tot_apply (r : Fin 8) (j : Fin 256) :
    (tot m : FVec Ideal S8x1x256 .f32) (ix3 r 0 j) = ∑ k : Fin 256, Ideal.log (blockIn m (r : Dev nD) (ix2 k j)) := by
  have hr : inRow (ix3 r 0 j : S8x1x256.Idx) = ix3 0 0 j := by
    funext a; apply Fin.ext
    match a with
    | ⟨0, _⟩ => exact congrArg Fin.val (Subsingleton.elim (α := Fin 1) _ _)
    | ⟨1, _⟩ => rfl
    | ⟨2, _⟩ => rfl
  show k0_pay2 (F := Ideal) (xstg m (r : Dev nD)) (inRow (ix3 r 0 j : S8x1x256.Idx)) = _
  rw [hr, xstg_eq]
  exact totals_apply _ j

/-- Each device's result from blocks without a negative entry: its own rows up to `i`, times all of the earlier blocks. -/
theorem outAt_apply (hm : ∀ (c : Dev nD) i, 0 ≤ blockIn m c i) (c : Dev nD) (i j : Fin 256) :
    (outAt m c : FVec Ideal S256x256 .f32) (ix2 i j)
      = (∏ k : Fin 256, if k.val ≤ i.val then blockIn m c (ix2 k j) else 1)
        * ∏ r : Fin 8, if r.val < c.val then ∏ k : Fin 256, blockIn m (r : Dev nD) (ix2 k j) else 1 := by
  refine (scaled_apply c _ _ i j).trans (congrArg₂ (· * ·) ?_ (Finset.prod_congr rfl fun r _ => ?_))
  · rw [xstg_eq]
    exact scanned_apply (blockIn m c) (hm c) i j
  · rw [tot_apply]
    split
    · rw [exp_sum]
      exact Finset.prod_congr rfl fun k _ => exp_log _ (hm _ _)
    · exact exp_zero

/-- So with the blocks cut from one array, each device's result is its block of the running product. -/
theorem outAt_eq (x : Arr) (hx : ∀ c : Dev nD, blockIn m c = Layout.block ⟨2, ![256, 256]⟩ ⟨2, ![2048, 256]⟩ 0 8 c x)
    (hm : ∀ (c : Dev nD) i, 0 ≤ blockIn m c i) (c : Dev nD) :
    outAt m c = Layout.block ⟨2, ![256, 256]⟩ ⟨2, ![2048, 256]⟩ 0 8 c (cum x) := by
  have hb : ∀ (r : Fin 8) (k j : Fin 256), blockIn m (r : Dev nD) (ix2 k j) = entry x (256 * r.val + k.val) j := fun r k j => by
    have hr := r.isLt
    have hk := k.isLt
    rw [hx, entry_of_lt x _ (by omega : 256 * r.val + k.val < 2048)]
    refine congrArg x ?_
    funext a; apply Fin.ext
    match a with
    | ⟨0, _⟩ => show r.val * 256 + k.val = 256 * r.val + k.val; omega
    | ⟨1, _⟩ => rfl
  funext q
  obtain ⟨i, j, rfl⟩ : ∃ i j : Fin 256, q = ix2 i j := ⟨q 0, q 1, eq_ix2 q⟩
  refine (outAt_apply m hm c i j).trans ?_
  simp only [hb]
  refine (run_block_row x c i j).symm.trans ?_
  show _ = run x (c.val * 256 + i.val + 1) j
  rw [Nat.mul_comm]

end Cert.KernelRun

end
-- ==== Proof.Pre.lean ====
/-
What the precondition says of a block over the extended reals: no entry is negative.
-/
module

public import proofs.«01_k».proof.Pre_nonneg_KernelIdeal
public import proofs.«01_k».proof.Pre_nonneg_ReferenceIdeal
public import Idealize.ShloMosaic.Lib.ReduceAll
public import Idealize.ShloMosaic.PureOps.Ideal.Laws

@[expose] public section

noncomputable section

open Idealize.ShloMosaic

/-- The shape facts of the precondition on a device's block. -/
theorem Cert.Pre_nonneg_KernelIdeal.facts : Cert.Pre_nonneg_KernelIdeal.Facts :=
  ⟨by decide, by decide, by decide⟩

/-- The shape facts of the precondition on the whole array. -/
theorem Cert.Pre_nonneg_ReferenceIdeal.facts : Cert.Pre_nonneg_ReferenceIdeal.Facts :=
  ⟨by decide, by decide, by decide⟩

namespace Cert.Pre_nonneg_KernelIdeal

/-- A block for which the precondition answers true has no negative entry. -/
theorem nonneg_of_true [Facts] (x : FVec Ideal S256x256 .f32) (h : fn (F := Ideal) x = fun _ => 1#1) (i : S256x256.Idx) :
    (0 : EReal) ≤ x i := by
  have : Subsingleton S_.Idx := ⟨fun a b => funext fun k => k.elim0⟩
  unfold fn at h
  have h0 := congrFun h (Shape.Idx.first Facts.h_S_)
  have h1 := Host.reduce_andi_all _ _ Facts.reducesTo_S256x256_S_d0_1 Facts.h_S_ _ h0 i
  have h2 : BitVec.ofBool (decide ((Ideal.ofBits .f32 0x00000000#32 : EReal) ≤ x i)) = 1#1 := h1
  rw [Ideal.ofBits_zero_f32] at h2
  by_contra hn
  rw [decide_eq_false hn] at h2
  exact absurd h2 (by decide)

end Cert.Pre_nonneg_KernelIdeal

end
-- ==== Proof.Scan.lean ====
/-
The reference's loop computes the running product: after `k` trips the carried row is the product of the first `k` rows and
the first `k` rows of the result are in place.
-/
module

public import proofs.«01_k».proof.Proof.Gen.ReferenceIdeal.Run
public import proofs.«01_k».proof.Proof.Product
public import Idealize.ShloMosaic.Lib.DynamicIndex
public import Idealize.ShloMosaic.Lib.WordCmp

@[expose] public section

noncomputable section

namespace Cert.RefRun

open Cert.ReferenceIdeal Cert.ReferenceIdeal.Gen Cert.ReferenceIdeal.Value Cert.Product
open Idealize.ShloMosaic Idealize.ShloMosaic.TcCoe Idealize.ShloMosaic.ValueIdx
open Idealize.ShloMosaic.StableHlo
open Idealize.SL.Sem

variable (V : Valuation τ sig (Elt Ideal))

/-- The whole argument, as the loop carries it. -/
abbrev argOf : Arr := V (Proc.devRef .tc main_v2_0)
/-- The carried row of products. -/
abbrev accOf : FVec Ideal S256 .f32 := V (Proc.devRef .tc main_v2_2)
/-- The carried result. -/
abbrev resOf : Arr := V (Proc.devRef .tc main_v2_3)
/-- The carried counter. -/
abbrev ctrOf : IVec S_ 32 := V (Proc.devRef .tc main_v2_1)

/-- A row of one fits at any row there is. -/
theorem fits (k : ℕ) (hk : k < 2048) : S2048x256.Slices ![k, 0] S1x256 :=
  ⟨rfl, fun a => by
    match a with
    | ⟨0, _⟩ => show k + 1 ≤ 2048; omega
    | ⟨1, _⟩ => show 0 + 256 ≤ 256; omega⟩

/-- The row the counter names starts at that row. -/
theorem starts (k : ℕ) (hk : k < 2048) (hc : ctrOf V = fun _ => BitVec.ofNat 32 k) (a : Fin 2) :
    (((![V (Proc.devRef .tc main_v2_1), constantI S_ 32 0#32] : Fin 2 → (⟨S_, .i32⟩ : BufTy).Contents (Elt Ideal))) a (Shape.Idx.first h_S_)).toInt
      = (((![k, 0] : Fin 2 → ℕ) a : ℕ) : Int) := by
  match a with
  | ⟨0, _⟩ =>
    show (ctrOf V (Shape.Idx.first h_S_)).toInt = (k : Int)
    rw [hc]; exact toInt_ofNat_of_lt (by omega)
  | ⟨1, _⟩ => rfl

/-- One trip multiplies the carried row by the row the counter names. -/
theorem acc_trip (k : ℕ) (hk : k < 2048) (hc : ctrOf V = fun _ => BitVec.ofNat 32 k) (j : Fin 256) :
    (res_main_while0b_v4 V : FVec Ideal S256 .f32) (ix1 j) = accOf V (ix1 j) * entry (argOf V) k j := by
  unfold res_main_while0b_v4
  rw [Host.dynamicSlice_eq_extractStridedSlice S1x256 _ _ ![k, 0] _ (fits k hk) (starts V k hk hc), entry_of_lt _ _ hk]
  show accOf V (ix1 j) * shapeCast S256 _ _ (ix1 j) = _
  rw [shapeCast_1a_a_apply]
  refine congrArg (accOf V (ix1 j) * ·) (congrArg (argOf V) ?_)
  funext a; apply Fin.ext
  match a with
  | ⟨0, _⟩ => rfl
  | ⟨1, _⟩ => show 0 + j.val = j.val; omega

/-- One trip writes that row of the result and no other. -/
theorem res_trip (k : ℕ) (hk : k < 2048) (hc : ctrOf V = fun _ => BitVec.ofNat 32 k) (i : Fin 2048) (j : Fin 256) :
    (step_main_v2_3 V : Arr) (ix2 i j) = if i.val = k then accOf V (ix1 j) * entry (argOf V) k j else resOf V (ix2 i j) := by
  unfold step_main_v2_3
  rw [id_eq, WordCmp.dynamicUpdateSlice_eq_update _ _ _ _ ![k, 0] (fits k hk) (starts V k hk hc)]
  unfold updateSlice
  by_cases h : i.val = k
  · rw [if_pos h, dif_pos (fun a => by
      match a with
      | ⟨0, _⟩ => show k ≤ i.val ∧ i.val < k + 1; omega
      | ⟨1, _⟩ => have := j.isLt; show 0 ≤ j.val ∧ j.val < 0 + 256; omega), ← acc_trip V k hk hc j]
    unfold broadcastInDim
    refine congrArg (res_main_while0b_v4 V : FVec Ideal S256 .f32) ?_
    funext a; apply Fin.ext
    match a with
    | ⟨0, _⟩ => rfl
  · rw [if_neg h, dif_neg (fun hin => by
      have := hin ⟨0, by decide⟩
      exact h (by
        have h1 : k ≤ i.val ∧ i.val < k + 1 := this
        omega))]

variable (m : (ℓ : Loc nD τ sig) → Buf (Elt Ideal) ℓ) (c : Dev nD)

/-- The buffers after `k` trips. -/
abbrev at_ (k : ℕ) : Valuation τ sig (Elt Ideal) := STEP^[k] (entryContents preI m c)

/-- The argument is carried as it came. -/
theorem arg_at (k : ℕ) : argOf (at_ m c k) = m ((c.tc : Thread nD τ).loc main_arg0) := by
  induction k with
  | zero =>
    show (entryContents preI m c) (Proc.devRef .tc main_v2_0) = _
    simp only [entryContents, afterL_cons, afterL_nil]
    after_reads_simp
    rfl
  | succ k ih => rw [show at_ m c (k + 1) = STEP (at_ m c k) from Function.iterate_succ_apply' ..]; exact (STEP_main_v2_0 _).trans ih

/-- The counter counts. -/
theorem ctr_at (k : ℕ) : ctrOf (at_ m c k) = fun _ => BitVec.ofNat 32 k := by
  induction k with
  | zero => exact ctr_entry m c
  | succ k ih =>
    rw [show at_ m c (k + 1) = STEP (at_ m c k) from Function.iterate_succ_apply' ..]
    refine (STEP_main_v2_1 _).trans ?_
    unfold step_main_v2_1
    funext i
    show ctrOf (at_ m c k) i + 1#32 = _
    rw [ih, BitVec.ofNat_add]

/-- The whole argument at launch. -/
abbrev argIn : Arr := m ((c.tc : Thread nD τ).loc main_arg0)

/-- After `k` trips the carried row is the product of the first `k` rows. -/
theorem acc_at (k : ℕ) (hk : k ≤ 2048) (j : Fin 256) : accOf (at_ m c k) (ix1 j) = run (argIn m c) k j := by
  induction k with
  | zero =>
    rw [run_zero]
    show (entryContents preI m c) (Proc.devRef .tc main_v2_2) (ix1 j) = _
    simp only [entryContents, afterL_cons, afterL_nil]
    after_reads_simp
    show Ideal.ofBits .f32 0x3F800000#32 = 1
    simp [Ideal.ofBits, Ideal.ieee]
    rw [← EReal.coe_one]
    norm_cast
    norm_num
  | succ k ih =>
    rw [show at_ m c (k + 1) = STEP (at_ m c k) from Function.iterate_succ_apply' .., run_succ, ← ih (by omega)]
    refine (congrFun (STEP_main_v2_2 _) _).trans ?_
    unfold step_main_v2_2
    rw [id_eq, acc_trip _ k (by omega) (ctr_at m c k) j, arg_at]

/-- After `k` trips the first `k` rows of the result are in place. -/
theorem res_at (k : ℕ) (hk : k ≤ 2048) (i : Fin 2048) (hi : i.val < k) (j : Fin 256) : resOf (at_ m c k) (ix2 i j) = run (argIn m c) (i.val + 1) j := by
  induction k with
  | zero => exact absurd hi (Nat.not_lt_zero _)
  | succ k ih =>
    rw [show at_ m c (k + 1) = STEP (at_ m c k) from Function.iterate_succ_apply' ..]
    refine (congrFun (STEP_main_v2_3 _) _).trans ?_
    rw [res_trip _ k (by omega) (ctr_at m c k) i j, acc_at m c k (by omega) j, arg_at]
    split
    · rename_i h; rw [h, run_succ]
    · exact ih (by omega) (by omega)

/-- The loop's result is the running product. -/
theorem result (m : (ℓ : Loc nD τ sig) → Buf (Elt Ideal) ℓ) (c : Dev nD) :
    (STEP^[2048] (entryContents preI m c)) (Proc.devRef .tc main_v2_3) = cum (argIn m c) := by
  funext i
  rw [eq_ix2 i]
  exact res_at m c 2048 le_rfl (i 0) (i 0).isLt (i 1)

end Cert.RefRun

end
-- ==== Proof.lean ====
/-
The five claims, from the kernel's run (Proof/Launch.lean), its values over the extended reals (Proof/Value.lean), the
precondition (Proof/Pre.lean), and the reference's run with its values (Proof/Scan.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Pre
public import proofs.«01_k».proof.Proof.Scan
public import Idealize.ShloMosaic.Adequacy
public import Idealize.ShloMosaic.Init

@[expose] public section

noncomputable section

namespace Cert.Proof

open Idealize.ShloMosaic Idealize.SL.Sem

/-- The shape facts of the precondition on a block, for the statements below. -/
local instance : Cert.Pre_nonneg_KernelIdeal.Facts := Cert.Pre_nonneg_KernelIdeal.facts

/-- The shape facts of the precondition on the whole array, for the statements below. -/
local instance : Cert.Pre_nonneg_ReferenceIdeal.Facts := Cert.Pre_nonneg_ReferenceIdeal.facts

section Ends

open Cert.KernelIdeal

/-- For any float values the kernel runs, keeps its argument and ends with every counter at zero. -/
theorem ends {F : FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (Cert.KernelRun.run_main (F := F) m ρ)

end Ends

/-- The two programs, of one text, have the same body table, -/
theorem bodies_same : Cert.Kernel.defs₀ (F := Bits) = Cert.KernelIdeal.defs₀ (F := Bits) := by
  refine congrArg (Defs.onTc (nD := 8) (τ := Topo.v7x) (sig := Cert.KernelIdeal.sig) (Λ := Cert.KernelIdeal.Λ₀)) ?_
  funext l x
  match l, x with
  | ⟨0, _⟩, (t, s) => exact rfl

/-- and so the same definitions. -/
theorem defs_same : Cert.Kernel.defs (F := Bits) = Cert.KernelIdeal.defs (F := Bits) :=
  congrArg (Pipeline.defs Cert.KernelIdeal.pcfgs) bodies_same

/-- So over bit patterns. -/
theorem frame_kernel : Cert.quiescent_Kernel := fun m ρ _ => by
  have h := ends (F := Bits) m ρ
  rw [← defs_same] at h
  exact h

/-- And over the extended reals, from every memory. -/
theorem frame_ideal : Cert.quiescent_KernelIdeal := fun m ρ _ => ends (F := Ideal) m ρ

/-- The same of the reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From one array without a negative entry, cut over the devices: each device's result is its block of the array's running
    product, which is what the reference computes. -/
theorem values : Cert.algebraic_KernelIdeal_ReferenceIdeal_pre_nonneg_KernelIdeal := by
  intro m ρ m' ρ' hpre hcut
  refine ⟨Cert.Product.cum (Cert.RefRun.argIn m' 0), ?_, ?_⟩
  · refine (θ_run Cert.KernelIdeal.defs _ _).mono (fun _ h c => ⟨(h.1 c).1.trans ?_, (h.1 c).2⟩) (Cert.KernelRun.run_main (F := Ideal) m ρ)
    exact Cert.KernelRun.outAt_eq m (Cert.RefRun.argIn m' 0) hcut
      (fun d i => Cert.Pre_nonneg_KernelIdeal.nonneg_of_true _ (hpre d) i) c
  · exact (θ_run Cert.ReferenceIdeal.defs _ _).mono (fun _ h => ⟨(h 0).1.trans (Cert.RefRun.result m' 0), (h 0).2⟩)
      (Cert.ReferenceIdeal.Value.run (F := Ideal) m' ρ')

/-- All the claims. -/
theorem claim : Cert.Claim :=
  ⟨Cert.Kernel.Gen.facts, Cert.KernelIdeal.Gen.facts, Cert.ReferenceIdeal.Gen.facts,
    Cert.Pre_nonneg_KernelIdeal.facts, Cert.Pre_nonneg_ReferenceIdeal.facts,
    frame_kernel, frame_ideal, fun m ρ _ => frame_ideal m ρ trivial,
    frame_reference, fun m ρ _ => frame_reference m ρ trivial, trivial, values⟩

end Cert.Proof

end
